-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nine_per_lane [hPre_nine_per_lane : Cert.Pre_nine_per_lane.Facts] (m : (ℓ : Loc Cert.KernelIdeal.nD Cert.KernelIdeal.τ Cert.KernelIdeal.sig) → Buf (Elt Ideal) ℓ) : Prop :=
  ∀ c : Dev Cert.KernelIdeal.nD,
    (Cert.Pre_nine_per_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_nine_per_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nine_per_lane [hPre_nine_per_lane : Cert.Pre_nine_per_lane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nine_per_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_nine_per_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nine_per_lane [hKernelIdeal : Cert.KernelIdeal.Facts] [hPre_nine_per_lane : Cert.Pre_nine_per_lane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nine_per_lane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nine_per_lane [hReferenceIdeal : Cert.ReferenceIdeal.Facts] [hPre_nine_per_lane : Cert.Pre_nine_per_lane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nine_per_lane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nine_per_lane [hKernelIdeal : Cert.KernelIdeal.Facts] [hReferenceIdeal : Cert.ReferenceIdeal.Facts] [hPre_nine_per_lane : Cert.Pre_nine_per_lane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nine_per_lane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nine_per_lane : Cert.Pre_nine_per_lane.Facts),
    quiescent_Kernel (hKernel := hKernel)
    ∧ quiescent_KernelIdeal (hKernelIdeal := hKernelIdeal)
    ∧ quiescent_KernelIdeal_pre_nine_per_lane (hKernelIdeal := hKernelIdeal) (hPre_nine_per_lane := hPre_nine_per_lane)
    ∧ quiescent_ReferenceIdeal (hReferenceIdeal := hReferenceIdeal)
    ∧ quiescent_ReferenceIdeal_pre_nine_per_lane (hReferenceIdeal := hReferenceIdeal) (hPre_nine_per_lane := hPre_nine_per_lane)
    ∧ preserves_Kernel_KernelIdeal
    ∧ algebraic_KernelIdeal_ReferenceIdeal_pre_nine_per_lane (hKernelIdeal := hKernelIdeal) (hReferenceIdeal := hReferenceIdeal) (hPre_nine_per_lane := hPre_nine_per_lane)
-- ==== Pre_nine_per_lane.lean ====
abbrev S10000x128 : Shape := ⟨2, ![10000, 128]⟩
abbrev S10000x3 : Shape := ⟨2, ![10000, 3]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x10000 : Shape := ⟨2, ![10000, 10000]⟩
abbrev S3x10000 : Shape := ⟨2, ![3, 10000]⟩
abbrev S10000x32 : Shape := ⟨2, ![10000, 32]⟩
abbrev S320000 : Shape := ⟨1, ![320000]⟩
abbrev S10000x32x1 : Shape := ⟨3, ![10000, 32, 1]⟩
abbrev S128 : Shape := ⟨1, ![128]⟩
abbrev S1x1x128 : Shape := ⟨3, ![1, 1, 128]⟩
abbrev S10000x32x128 : Shape := ⟨3, ![10000, 32, 128]⟩

class Facts : Prop where
  reducesTo_S10000x3_S10000_d1 : S10000x3.ReducesTo [1] S10000
  h_S_ : 0 < S_.numel
  bcast_S10000_S10000x1_0 : S10000.BroadcastsInDim S10000x1 (![0] : Fin 1 → Fin S10000x1.rank)
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  transposes_S10000x3_S3x10000_1_0 : S10000x3.Transposes [1, 0] S3x10000
  bcast_S_S10000x10000 : S_.BroadcastsInDim S10000x10000 (![] : Fin 0 → Fin S10000x10000.rank)
  sliceFits_S10000x10000_S10000x32 : S10000x10000.Slices (fun _ => 0) S10000x32
  bcast_S_S10000x32 : S_.BroadcastsInDim S10000x32 (![] : Fin 0 → Fin S10000x32.rank)
  bcast_S10000x1_S10000x32_0_1 : S10000x1.BroadcastsInDim S10000x32 (![0, 1] : Fin 2 → Fin S10000x32.rank)
  shapeCasts_S10000x32_S320000 : S10000x32.ShapeCasts S320000
  shapeCasts_S320000_S10000x32x1 : S320000.ShapeCasts S10000x32x1
  shapeCasts_S128_S1x1x128 : S128.ShapeCasts S1x1x128
  bcast_S_S10000x32x1 : S_.BroadcastsInDim S10000x32x1 (![] : Fin 0 → Fin S10000x32x1.rank)
  bcast_S10000x32x1_S10000x32x128_0_1_2 : S10000x32x1.BroadcastsInDim S10000x32x128 (![0, 1, 2] : Fin 3 → Fin S10000x32x128.rank)
  bcast_S1x1x128_S10000x32x128_0_1_2 : S1x1x128.BroadcastsInDim S10000x32x128 (![0, 1, 2] : Fin 3 → Fin S10000x32x128.rank)
  bcast_S_S10000x32x128 : S_.BroadcastsInDim S10000x32x128 (![] : Fin 0 → Fin S10000x32x128.rank)
  reducesTo_S10000x32x128_S10000x128_d1 : S10000x32x128.ReducesTo [1] S10000x128
  bcast_S_S10000x3 : S_.BroadcastsInDim S10000x3 (![] : Fin 0 → Fin S10000x3.rank)
  bcast_S_S10000x128 : S_.BroadcastsInDim S10000x128 (![] : Fin 0 → Fin S10000x128.rank)
  dot_S10000x3_S3x10000_S10000x10000_1_0_0_1_n_n_wf : DotDims.WF S10000x3 S3x10000 S10000x10000 [1] [0] [0] [1] [] []

variable [Facts]

def dot_S10000x3_S3x10000_S10000x10000_1_0_0_1_n_n : DotDims S10000x3 S3x10000 S10000x10000 where
  lhsContracting := [1]
  rhsContracting := [0]
  lhsNonContracting := [0]
  rhsNonContracting := [1]
  lhsBatch := []
  rhsBatch := []
  wf := dot_S10000x3_S3x10000_S10000x10000_1_0_0_1_n_n_wf
def fn_where {F : FTy → Type} [FloatOps F] (arg0 : IVec S10000x10000 1) (arg1 : FVec F S_ .f32) (arg2 : FVec F S_ .f32) : FVec F S10000x10000 .f32 :=
  let v0 : FVec F S10000x10000 .f32 := broadcastInDim S10000x10000 ![] bcast_S_S10000x10000 arg1
  let v1 : FVec F S10000x10000 .f32 := broadcastInDim S10000x10000 ![] bcast_S_S10000x10000 arg2
  let v2 : FVec F S10000x10000 .f32 := select arg0 v0 v1
  v2

def fn_where_0 {F : FTy → Type} [FloatOps F] (arg0 : IVec S10000x10000 1) (arg1 : FVec F S10000x10000 .f32) (arg2 : FVec F S_ .f32) : FVec F S10000x10000 .f32 :=
  let v0 : FVec F S_ .f32 := id arg2
  let v1 : FVec F S10000x10000 .f32 := broadcastInDim S10000x10000 ![] bcast_S_S10000x10000 v0
  let v2 : FVec F S10000x10000 .f32 := select arg0 arg1 v1
  v2

def fn_where_1 {F : FTy → Type} [FloatOps F] (arg0 : IVec S10000x32 1) (arg1 : IVec S10000x32 32) (arg2 : IVec S_ 32) : IVec S10000x32 32 :=
  let v0 : IVec S_ 32 := id arg2
  let v1 : IVec S10000x32 32 := broadcastInDim S10000x32 ![] bcast_S_S10000x32 v0
  let v2 : IVec S10000x32 32 := select arg0 arg1 v1
  v2

def fn_where_2 {F : FTy → Type} [FloatOps F] (arg0 : IVec S10000x32x128 1) (arg1 : FVec F S_ .f32) (arg2 : FVec F S_ .f32) : FVec F S10000x32x128 .f32 :=
  let v0 : FVec F S10000x32x128 .f32 := broadcastInDim S10000x32x128 ![] bcast_S_S10000x32x128 arg1
  let v1 : FVec F S10000x32x128 .f32 := broadcastInDim S10000x32x128 ![] bcast_S_S10000x32x128 arg2
  let v2 : FVec F S10000x32x128 .f32 := select arg0 v0 v1
  v2

def fn_part3 {F : FTy → Type} [FloatOps F] (main_v49 : FVec F S10000x128 .f32) (main_v52 : IVec S10000x3 1) : IVec S10000x3 1 × IVec S10000x128 1 :=
  let main_cst_15 : FVec F S_ .f32 := constant S_ .f32 0x41100000#32
  let main_v53 : FVec F S10000x128 .f32 := broadcastInDim S10000x128 ![] bcast_S_S10000x128 main_cst_15
  let main_v54 : IVec S10000x128 1 := cmpf .ole main_v49 main_v53
  (main_v52, main_v54)

def fn_part2 {F : FTy → Type} [FloatOps F] (main_arg1 : FVec F S10000x3 .f32) (main_v32 : IVec S320000 32) : IVec S10000x3 1 × IVec S10000x128 1 :=
  let main_v35 : IVec S10000x32x1 32 := shapeCast S10000x32x1 main_v32 shapeCasts_S320000_S10000x32x1
  let main_v36 : IVec S128 32 := iotaInDim S128 32 0
  let main_v37 : IVec S1x1x128 32 := shapeCast S1x1x128 main_v36 shapeCasts_S128_S1x1x128
  let main_c_9 : IVec S_ 32 := constantI S_ 32 0#32
  let main_v38 : IVec S10000x32x1 32 := broadcastInDim S10000x32x1 ![] bcast_S_S10000x32x1 main_c_9
  let main_v39 : IVec S10000x32x1 1 := cmpi .sge main_v35 main_v38
  let main_c_10 : IVec S_ 32 := constantI S_ 32 127#32
  let main_v40 : IVec S10000x32x1 32 := broadcastInDim S10000x32x1 ![] bcast_S_S10000x32x1 main_c_10
  let main_v41 : IVec S10000x32x1 32 := andi main_v35 main_v40
  let main_v42 : IVec S10000x32x128 32 := broadcastInDim S10000x32x128 ![0, 1, 2] bcast_S10000x32x1_S10000x32x128_0_1_2 main_v41
  let main_v43 : IVec S10000x32x128 32 := broadcastInDim S10000x32x128 ![0, 1, 2] bcast_S1x1x128_S10000x32x128_0_1_2 main_v37
  let main_v44 : IVec S10000x32x128 1 := cmpi .eq main_v42 main_v43
  let main_v45 : IVec S10000x32x128 1 := broadcastInDim S10000x32x128 ![0, 1, 2] bcast_S10000x32x1_S10000x32x128_0_1_2 main_v39
  let main_v46 : IVec S10000x32x128 1 := andi main_v45 main_v44
  let main_cst_11 : FVec F S_ .f32 := constant S_ .f32 0x3F800000#32
  let main_cst_12 : FVec F S_ .f32 := constant S_ .f32 0x00000000#32
  let main_v47 : FVec F S10000x32x128 .f32 := fn_where_2 (F := F) main_v46 main_cst_11 main_cst_12
  let main_v48 : FVec F S10000x32x128 .f32 := id main_v47
  let main_cst_13 : FVec F S_ .f32 := constant S_ .f32 0x00000000#32
  let main_v49 : FVec F S10000x128 .f32 := (fun x v => Host.reduceAdd x v reducesTo_S10000x32x128_S10000x128_d1 h_S_) main_v48 main_cst_13
  let main_v50 : FVec F S10000x3 .f32 := Host.absf main_arg1
  let main_cst_14 : FVec F S_ .f32 := constant S_ .f32 0x42C60000#32
  let main_v51 : FVec F S10000x3 .f32 := broadcastInDim S10000x3 ![] bcast_S_S10000x3 main_cst_14
  let main_v52 : IVec S10000x3 1 := cmpf .ole main_v50 main_v51
  fn_part3 (F := F) main_v49 main_v52

def fn_part1 {F : FTy → Type} [FloatOps F] (main_arg1 : FVec F S10000x3 .f32) (main_v13 : FVec F S10000x10000 .f32) (main_v18 : IVec S10000x10000 1) (main_cst_2 : FVec F S_ .f32) : IVec S10000x3 1 × IVec S10000x128 1 :=
  let main_cst_3 : FVec F S_ .f32 := constant S_ .f32 0x00000000#32
  let main_v19 : FVec F S10000x10000 .f32 := fn_where (F := F) main_v18 main_cst_2 main_cst_3
  let main_v20 : FVec F S10000x10000 .f32 := id main_v19
  let main_v21 : FVec F S10000x10000 .f32 := addf main_v13 main_v20
  let main_cst_4 : FVec F S_ .f32 := constant S_ .f32 0x3C238332#32
  let main_v22 : FVec F S10000x10000 .f32 := broadcastInDim S10000x10000 ![] bcast_S_S10000x10000 main_cst_4
  let main_v23 : IVec S10000x10000 1 := cmpf .ole main_v21 main_v22
  let main_cst_5 : FVec F S_ .f32 := constant S_ .f32 0x7F800000#32
  let main_v24 : FVec F S10000x10000 .f32 := fn_where_0 (F := F) main_v23 main_v21 main_cst_5
  let main_v25 : FVec F S10000x10000 .f32 := Host.negf main_v24
  let main_values : FVec F S10000x32 .f32 := (fun x => (Host.topK S10000x32 1 (FloatOps.cmpfTotal .gt) x sliceFits_S10000x10000_S10000x32).1) main_v25
  let main_indices : IVec S10000x32 32 := (fun x => (Host.topK S10000x32 1 (FloatOps.cmpfTotal .gt) x sliceFits_S10000x10000_S10000x32).2) main_v25
  let main_cst_6 : FVec F S_ .f32 := constant S_ .f32 0xFF800000#32
  let main_v26 : FVec F S10000x32 .f32 := broadcastInDim S10000x32 ![] bcast_S_S10000x32 main_cst_6
  let main_v27 : IVec S10000x32 1 := cmpf .ogt main_values main_v26
  let main_v28 : IVec S10000 32 := iotaInDim S10000 32 0
  let main_v29 : IVec S10000x1 32 := broadcastInDim S10000x1 ![0] bcast_S10000_S10000x1_0 main_v28
  let main_v30 : IVec S10000x32 32 := broadcastInDim S10000x32 ![0, 1] bcast_S10000x1_S10000x32_0_1 main_v29
  let main_c_7 : IVec S_ 32 := constantI S_ 32 4294967295#32
  let main_v31 : IVec S10000x32 32 := fn_where_1 (F := F) main_v27 main_indices main_c_7
  let main_v32 : IVec S320000 32 := shapeCast S320000 main_v31 shapeCasts_S10000x32_S320000
  let main_c_8 : IVec S_ 32 := constantI S_ 32 4294967295#32
  let main_v33 : IVec S10000x32 32 := fn_where_1 (F := F) main_v27 main_v30 main_c_8
  let main_v34 : IVec S320000 32 := shapeCast S320000 main_v33 shapeCasts_S10000x32_S320000
  fn_part2 (F := F) main_arg1 main_v32

def fn {F : FTy → Type} [FloatOps F] (main_arg0 : FVec F S10000x128 .f32) (main_arg1 : FVec F S10000x3 .f32) : IVec S10000x3 1 × IVec S10000x128 1 :=
  let main_v0 : FVec F S10000x3 .f32 := mulf main_arg1 main_arg1
  let main_cst : FVec F S_ .f32 := constant S_ .f32 0x00000000#32
  let main_v1 : FVec F S10000 .f32 := (fun x v => Host.reduceAdd x v reducesTo_S10000x3_S10000_d1 h_S_) main_v0 main_cst
  let main_v2 : FVec F S10000x1 .f32 := broadcastInDim S10000x1 ![0] bcast_S10000_S10000x1_0 main_v1
  let main_v3 : FVec F S1x10000 .f32 := broadcastInDim S1x10000 ![1] bcast_S10000_S1x10000_1 main_v1
  let main_v4 : FVec F S10000x10000 .f32 := broadcastInDim S10000x10000 ![0, 1] bcast_S10000x1_S10000x10000_0_1 main_v2
  let main_v5 : FVec F S10000x10000 .f32 := broadcastInDim S10000x10000 ![0, 1] bcast_S1x10000_S10000x10000_0_1 main_v3
  let main_v6 : FVec F S10000x10000 .f32 := addf main_v4 main_v5
  let main_v7 : FVec F S3x10000 .f32 := (transpose S3x10000 [1, 0] · transposes_S10000x3_S3x10000_1_0) main_arg1
  let main_v8 : FVec F S10000x10000 .f32 := (fun l r => Host.dotGeneral dot_S10000x3_S3x10000_S10000x10000_1_0_0_1_n_n none l r) main_arg1 main_v7
  let main_cst_0 : FVec F S_ .f32 := constant S_ .f32 0x40000000#32
  let main_v9 : FVec F S10000x10000 .f32 := broadcastInDim S10000x10000 ![] bcast_S_S10000x10000 main_cst_0
  let main_v10 : FVec F S10000x10000 .f32 := mulf main_v9 main_v8
  let main_v11 : FVec F S10000x10000 .f32 := subf main_v6 main_v10
  let main_cst_1 : FVec F S_ .f32 := constant S_ .f32 0x00000000#32
  let main_v12 : FVec F S10000x10000 .f32 := broadcastInDim S10000x10000 ![] bcast_S_S10000x10000 main_cst_1
  let main_v13 : FVec F S10000x10000 .f32 := maximumf main_v11 main_v12
  let main_v14 : IVec S10000x10000 32 := iotaInDim S10000x10000 32 0
  let main_v15 : IVec S10000x10000 32 := iotaInDim S10000x10000 32 1
  let main_c : IVec S_ 32 := constantI S_ 32 0#32
  let main_v16 : IVec S10000x10000 32 := broadcastInDim S10000x10000 ![] bcast_S_S10000x10000 main_c
  let main_v17 : IVec S10000x10000 32 := addi main_v14 main_v16
  let main_v18 : IVec S10000x10000 1 := cmpi .eq main_v17 main_v15
  let main_cst_2 : FVec F S_ .f32 := constant S_ .f32 0x7F800000#32
  fn_part1 (F := F) main_arg1 main_v13 main_v18 main_cst_2
-- ==== Kernel.lean ====
abbrev S10000x128 : Shape := ⟨2, ![10000, 128]⟩
abbrev S10000x3 : Shape := ⟨2, ![10000, 3]⟩
abbrev S_ : Shape := ⟨0, ![]⟩
abbrev S10240x3 : Shape := ⟨2, ![10240, 3]⟩
abbrev S3x10240 : Shape := ⟨2, ![3, 10240]⟩
abbrev S10240x32 : Shape := ⟨2, ![10240, 32]⟩
abbrev S128x3 : Shape := ⟨2, ![128, 3]⟩
abbrev S128x32 : Shape := ⟨2, ![128, 32]⟩
abbrev S128x10240 : Shape := ⟨2, ![128, 10240]⟩
abbrev S128 : Shape := ⟨1, ![128]⟩
abbrev S128x1 : Shape := ⟨2, ![128, 1]⟩
abbrev S10240 : Shape := ⟨1, ![10240]⟩
abbrev S1x10240 : Shape := ⟨2, ![1, 10240]⟩
abbrev S128x128 : Shape := ⟨2, ![128, 128]⟩
abbrev S10000x32 : Shape := ⟨2, ![10000, 32]⟩
abbrev S320000 : Shape := ⟨1, ![320000]⟩

abbrev nBuf : Space → Nat
  | .hbm => 12
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x3, .f32⟩
  | .hbm, ⟨2, _⟩ => ⟨S_, .f32⟩
  | .hbm, ⟨3, _⟩ => ⟨S_, .f32⟩
  | .hbm, ⟨4, _⟩ => ⟨S10240x3, .f32⟩
  | .hbm, ⟨5, _⟩ => ⟨S3x10240, .f32⟩
  | .hbm, ⟨6, _⟩ => ⟨S10240x32, .i32⟩
  | .hbm, ⟨7, _⟩ => ⟨S10240x32, .i32⟩
  | .hbm, ⟨8, _⟩ => ⟨S10000x32, .i32⟩
  | .hbm, ⟨9, _⟩ => ⟨S320000, .i32⟩
  | .hbm, ⟨10, _⟩ => ⟨S10000x32, .i32⟩
  | .hbm, ⟨11, _⟩ => ⟨S320000, .i32⟩
  | .local _ .vmem, ⟨0, _⟩ => ⟨S128x3, .f32⟩
  | .local _ .vmem, ⟨1, _⟩ => ⟨S128x3, .f32⟩
  | .local _ .vmem, ⟨2, _⟩ => ⟨S3x10240, .f32⟩
  | .local _ .vmem, ⟨3, _⟩ => ⟨S128x32, .i32⟩
  | .local _ .vmem, ⟨4, _⟩ => ⟨S128x32, .i32⟩
  | .local _ .vmem, ⟨5, _⟩ => ⟨S128x32, .i32⟩
  | .local _ .vmem, ⟨6, _⟩ => ⟨S128x32, .i32⟩
  | .local _ .vmem, ⟨7, _⟩ => ⟨S128x10240, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S10000x128 : Shape := ⟨2, ![10000, 128]⟩
abbrev S10000x3 : Shape := ⟨2, ![10000, 3]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x10000 : Shape := ⟨2, ![10000, 10000]⟩
abbrev S3x10000 : Shape := ⟨2, ![3, 10000]⟩
abbrev S10000x32 : Shape := ⟨2, ![10000, 32]⟩
abbrev S320000 : Shape := ⟨1, ![320000]⟩

abbrev nBuf : Space → Nat
  | .hbm => 58
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x3, .f32⟩
  | .hbm, ⟨2, _⟩ => ⟨S10000x3, .f32⟩
  | .hbm, ⟨3, _⟩ => ⟨S_, .f32⟩
  | .hbm, ⟨4, _⟩ => ⟨S10000, .f32⟩
  | .hbm, ⟨5, _⟩ => ⟨S10000x1, .f32⟩
  | .hbm, ⟨6, _⟩ => ⟨S1x10000, .f32⟩
  | .hbm, ⟨7, _⟩ => ⟨S10000x10000, .f32⟩
  | .hbm, ⟨8, _⟩ => ⟨S10000x10000, .f32⟩
  | .hbm, ⟨9, _⟩ => ⟨S10000x10000, .f32⟩
  | .hbm, ⟨10, _⟩ => ⟨S3x10000, .f32⟩
  | .hbm, ⟨11, _⟩ => ⟨S10000x10000, .f32⟩
  | .hbm, ⟨12, _⟩ => ⟨S_, .f32⟩
  | .hbm, ⟨13, _⟩ => ⟨S10000x10000, .f32⟩
  | .hbm, ⟨14, _⟩ => ⟨S10000x10000, .f32⟩
  | .hbm, ⟨15, _⟩ => ⟨S10000x10000, .f32⟩
  | .hbm, ⟨16, _⟩ => ⟨S_, .f32⟩
  | .hbm, ⟨17, _⟩ => ⟨S10000x10000, .f32⟩
  | .hbm, ⟨18, _⟩ => ⟨S10000x10000, .f32⟩
  | .hbm, ⟨19, _⟩ => ⟨S10000x10000, .i32⟩
  | .hbm, ⟨20, _⟩ => ⟨S10000x10000, .i32⟩
  | .hbm, ⟨21, _⟩ => ⟨S_, .i32⟩
  | .hbm, ⟨22, _⟩ => ⟨S10000x10000, .i32⟩
  | .hbm, ⟨23, _⟩ => ⟨S10000x10000, .i32⟩
  | .hbm, ⟨24, _⟩ => ⟨S10000x10000, .i1⟩
  | .hbm, ⟨25, _⟩ => ⟨S_, .f32⟩
  | .hbm, ⟨26, _⟩ => ⟨S_, .f32⟩
  | .hbm, ⟨27, _⟩ => ⟨S10000x10000, .f32⟩
  | .hbm, ⟨28, _⟩ => ⟨S10000x10000, .f32⟩
  | .hbm, ⟨29, _⟩ => ⟨S10000x10000, .f32⟩
  | .hbm, ⟨30, _⟩ => ⟨S10000x10000, .f32⟩
  | .hbm, ⟨31, _⟩ => ⟨S10000x10000, .f32⟩
  | .hbm, ⟨32, _⟩ => ⟨S_, .f32⟩
  | .hbm, ⟨33, _⟩ => ⟨S10000x10000, .f32⟩
  | .hbm, ⟨34, _⟩ => ⟨S10000x10000, .i1⟩
  | .hbm, ⟨35, _⟩ => ⟨S_, .f32⟩
  | .hbm, ⟨36, _⟩ => ⟨S_, .f32⟩
  | .hbm, ⟨37, _⟩ => ⟨S10000x10000, .f32⟩
  | .hbm, ⟨38, _⟩ => ⟨S10000x10000, .f32⟩
  | .hbm, ⟨39, _⟩ => ⟨S10000x10000, .f32⟩
  | .hbm, ⟨40, _⟩ => ⟨S10000x32, .f32⟩
  | .hbm, ⟨41, _⟩ => ⟨S10000x32, .i32⟩
  | .hbm, ⟨42, _⟩ => ⟨S_, .f32⟩
  | .hbm, ⟨43, _⟩ => ⟨S10000x32, .f32⟩
  | .hbm, ⟨44, _⟩ => ⟨S10000x32, .i1⟩
  | .hbm, ⟨45, _⟩ => ⟨S10000, .i32⟩
  | .hbm, ⟨46, _⟩ => ⟨S10000x1, .i32⟩
  | .hbm, ⟨47, _⟩ => ⟨S10000x32, .i32⟩
  | .hbm, ⟨48, _⟩ => ⟨S_, .i32⟩
  | .hbm, ⟨49, _⟩ => ⟨S_, .i32⟩
  | .hbm, ⟨50, _⟩ => ⟨S10000x32, .i32⟩
  | .hbm, ⟨51, _⟩ => ⟨S10000x32, .i32⟩
  | .hbm, ⟨52, _⟩ => ⟨S320000, .i32⟩
  | .hbm, ⟨53, _⟩ => ⟨S_, .i32⟩
  | .hbm, ⟨54, _⟩ => ⟨S_, .i32⟩
  | .hbm, ⟨55, _⟩ => ⟨S10000x32, .i32⟩
  | .hbm, ⟨56, _⟩ => ⟨S10000x32, .i32⟩
  | .hbm, ⟨57, _⟩ => ⟨S320000, .i32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_v25 : Ref sig .tc := ⟨.hbm, 39, rfl⟩
abbrev main_values : Ref sig .tc := ⟨.hbm, 40, rfl⟩
abbrev main_indices : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_call2_v0 : Ref sig .tc := ⟨.hbm, 49, rfl⟩
abbrev main_call2_v1 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_call3_v0 : Ref sig .tc := ⟨.hbm, 54, rfl⟩
abbrev main_call3_v1 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Proof.Stages.lean ====
module

public import proofs.«01_k».proof.Proof.Gen.KernelIdeal.Frame

/-!
What one block of the kernel computes, written as three functions of the step number: the nine running
lists of distances, the nine running lists of positions, and the pairs left after a number of pops.
-/

@[expose] public section

noncomputable section

namespace Cert.Radius

open Idealize.ShloMosaic Idealize.SL.Sem Cert.KernelIdeal Cert.KernelIdeal.Gen

variable {F : FTy → Type} [FloatOps F]

/-- A square tile of distances. -/
abbrev Dists (F : FTy → Type) := FVec F S128x128 .f32
/-- A square tile of positions. -/
abbrev Poss := IVec S128x128 32

/-- The tile filled with the infinite distance. -/
def farTile : Dists F := broadcast S128x128 (Scalar.ofBits .f32 0x7F800000#32)

/-- The tile filled with the position that stands for no position. -/
def noTile : Poss := broadcast S128x128 10240#32

/-- The positions of slice `k`: the lane's number plus `128 k`. -/
def slicePos (k : ℕ) : Poss :=
  addi (broadcast S128x128 (BitVec.ofNat 32 (128 * k))) (iota .tc S128x128 32 [1] iota_S128x128_d1_w32)

/-- The distances kept in slot `t` after the first `k` slices of `X`. -/
def keptDist (X : ℕ → Dists F) (k : ℕ) : ℕ → Dists F :=
  Nat.rec (motive := fun _ => ℕ → Dists F) (fun _ => farTile)
    (fun k old t => select (cmpf .olt (X k) (old t))
      (Nat.rec (motive := fun _ => Dists F) (X k) (fun s _ => select (cmpf .olt (X k) (old s)) (old s) (X k)) t) (old t)) k

/-- The positions kept in slot `t` after the first `k` slices of `X`. -/
def keptPos (X : ℕ → Dists F) (k : ℕ) : ℕ → Poss :=
  Nat.rec (motive := fun _ => ℕ → Poss) (fun _ => noTile)
    (fun k old t => select (cmpf .olt (X k) (keptDist X k t))
      (Nat.rec (motive := fun _ => Poss) (slicePos k)
        (fun s _ => select (cmpf .olt (X k) (keptDist X k s)) (old s) (slicePos k)) t) (old t)) k

/-- The least distance of each row of a tile, as one column. -/
def leastDist (A : Dists F) : FVec F S128x1 .f32 :=
  shapeCast S128x1 (multiReduction .minimumf [1] S128 A 0x7F800000#32 reduces_S128x128_S128 (.inl rfl) rfl) shapeCasts_S128_S128x1

/-- Where a row's distance is its least. -/
def atLeast (A : Dists F) : IVec S128x128 1 :=
  cmpf .oeq A (broadcastTo S128x128 (leastDist A) broadcasts_S128x1_S128x128)

/-- The least position of each row among those at the row's least distance, as one column. -/
def leastPos (A : Dists F) (B : Poss) : IVec S128x1 32 :=
  shapeCast S128x1 (multiReductionI .minsi [1] S128 (select (atLeast A) B noTile) 2147483647#32 reduces_S128x128_S128 rfl)
    shapeCasts_S128_S128x1

/-- The lane a pop takes its pair from. -/
def popped (A : Dists F) (B : Poss) : IVec S128x128 1 :=
  andi (atLeast A) (cmpi .eq B (broadcastTo S128x128 (leastPos A B) broadcasts_S128x1_S128x128))

/-- What a pop reports: the position, or minus one where the least distance is outside the radius. -/
def report (A : Dists F) (B : Poss) : IVec S128x1 32 :=
  select (cmpf .ole (leastDist A) (broadcast S128x1 (Scalar.ofBits .f32 0x3C238332#32))) (leastPos A B)
    (broadcast S128x1 4294967295#32)

/-- The pairs in slot `t` after `k` pops of the nine slots `A`, `B`. -/
def left (A : ℕ → Dists F) (B : ℕ → Poss) (k : ℕ) : ℕ → Dists F × Poss :=
  Nat.rec (motive := fun _ => ℕ → Dists F × Poss) (fun t => (A t, B t))
    (fun _ old t =>
      Nat.rec (motive := fun _ => Dists F × Poss)
        (select (popped (old 0).1 (old 0).2) farTile (old t).1, select (popped (old 0).1 (old 0).2) noTile (old t).2)
        (fun _ _ => (select (popped (old 0).1 (old 0).2) (old (Nat.succ t)).1 (old t).1,
          select (popped (old 0).1 (old 0).2) (old (Nat.succ t)).2 (old t).2)) (8 - t)) k

/-- What the `k`-th pop reports. -/
def reported (A : ℕ → Dists F) (B : ℕ → Poss) (k : ℕ) : IVec S128x1 32 :=
  report (left A B k 0).1 (left A B k 0).2

/-- The thirty-two reports side by side. -/
def reports (R : ℕ → IVec S128x1 32) : IVec S128x32 32 :=
  concatenate S128x32 1 [⟨S128x1, R 0⟩, ⟨S128x1, R 1⟩, ⟨S128x1, R 2⟩, ⟨S128x1, R 3⟩, ⟨S128x1, R 4⟩, ⟨S128x1, R 5⟩, ⟨S128x1, R 6⟩,
    ⟨S128x1, R 7⟩, ⟨S128x1, R 8⟩, ⟨S128x1, R 9⟩, ⟨S128x1, R 10⟩, ⟨S128x1, R 11⟩, ⟨S128x1, R 12⟩, ⟨S128x1, R 13⟩, ⟨S128x1, R 14⟩,
    ⟨S128x1, R 15⟩, ⟨S128x1, R 16⟩, ⟨S128x1, R 17⟩, ⟨S128x1, R 18⟩, ⟨S128x1, R 19⟩, ⟨S128x1, R 20⟩, ⟨S128x1, R 21⟩, ⟨S128x1, R 22⟩,
    ⟨S128x1, R 23⟩, ⟨S128x1, R 24⟩, ⟨S128x1, R 25⟩, ⟨S128x1, R 26⟩, ⟨S128x1, R 27⟩, ⟨S128x1, R 28⟩, ⟨S128x1, R 29⟩, ⟨S128x1, R 30⟩,
    ⟨S128x1, R 31⟩] concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1

/-- The rectangle of slice `k` lies inside the scratch array. -/
theorem slice_inside (k : ℕ) (h : k < 80) : ∀ a, (![0, 128 * k] : Fin 2 → ℕ) a + S128x128.size a ≤ S128x10240.size a := by
  intro a
  fin_cases a
  · show 0 + 128 ≤ 128; omega
  · show 128 * k + 128 ≤ 10240; omega

/-- Slice `k` as the block loads it from the scratch array. -/
def loaded (c : Dev nD) (i : grid0.Coords) (arg1 : Memref sig .tc .vmem S128x3 .f32) (harg1 : arg1.IsWhole)
    (arg2 : Memref sig .tc .vmem S3x10240 .f32) (harg2 : arg2.IsWhole) (arg5 : Memref sig .tc .vmem S128x10240 .f32)
    (x0 : Vec F S128x3 .f32) (x1 : Vec F S3x10240 .f32) (k : ℕ) : Dists F :=
  if h : k < 80 then
    arg5.view.readCov (kernelRun0_A.sl.HS0_1 c i arg1 harg1 arg2 harg2 x0 x1)
      (Rect.unit (s := S128x10240) ![0, 128 * k] S128x128.size (slice_inside k h)).toLoadRect
  else farTile

/-- The sources a block stores, over its loads. -/
def blockSrc (X : ℕ → Dists F) : IVec S128x32 32 :=
  reports (reported (keptDist X 80) (keptPos X 80))

set_option maxRecDepth 100000 in
/-- The block's first output holds the thirty-two reports. -/
theorem run_src (c : Dev nD) (i : grid0.Coords) (arg1 : Memref sig .tc .vmem S128x3 .f32) (harg1 : arg1.IsWhole)
    (arg2 : Memref sig .tc .vmem S3x10240 .f32) (harg2 : arg2.IsWhole)
    (arg3 : Memref sig .tc .vmem S128x32 .i32) (harg3 : arg3.IsWhole) (arg4 : Memref sig .tc .vmem S128x32 .i32) (harg4 : arg4.IsWhole)
    (arg5 : Memref sig .tc .vmem S128x10240 .f32) (harg5 : arg5.IsWhole)
    (x0 : Vec F S128x3 .f32) (x1 : Vec F S3x10240 .f32) :
    (kernelRun0_A c i arg1 harg1 arg2 harg2 arg3 harg3 arg4 harg4 arg5 harg5 x0 x1).1
      = [⟨Rect.unit ![0, 0] ![128, 32] inb_S128x32_S128x32_0_0, blockSrc (loaded c i arg1 harg1 arg2 harg2 arg5 x0 x1)⟩] := by
  sl_kernel_rfl

set_option maxRecDepth 100000 in
/-- The block's second output holds the row numbers of the reports that name a position. -/
theorem run_dst (c : Dev nD) (i : grid0.Coords) (arg1 : Memref sig .tc .vmem S128x3 .f32) (harg1 : arg1.IsWhole)
    (arg2 : Memref sig .tc .vmem S3x10240 .f32) (harg2 : arg2.IsWhole)
    (arg3 : Memref sig .tc .vmem S128x32 .i32) (harg3 : arg3.IsWhole) (arg4 : Memref sig .tc .vmem S128x32 .i32) (harg4 : arg4.IsWhole)
    (arg5 : Memref sig .tc .vmem S128x10240 .f32) (harg5 : arg5.IsWhole)
    (x0 : Vec F S128x3 .f32) (x1 : Vec F S3x10240 .f32) :
    (kernelRun0_A c i arg1 harg1 arg2 harg2 arg3 harg3 arg4 harg4 arg5 harg5 x0 x1).2.1
      = [⟨Rect.unit ![0, 0] ![128, 32] inb_S128x32_S128x32_0_0,
          k0_pay1 (BitVec.ofNat 32 (i 0).val) (blockSrc (loaded c i arg1 harg1 arg2 harg2 arg5 x0 x1))⟩] := by
  sl_kernel_rfl

end Cert.Radius

end
-- ==== Proof.Nearest.lean ====
module

public import Mathlib.Data.EReal.Basic
public import Mathlib.Data.List.GetD
public import Mathlib.Data.List.Sort
public import Mathlib.Data.Prod.Lex

/-!
The nearest positions of one row, as lists: a pair is a distance with its position, and pairs are compared
by the distance first and the position second.
-/

@[expose] public section

noncomputable section

namespace Cert.Radius

/-- A distance with its position. -/
abbrev Pair := EReal ×ₗ ℕ

/-- The pair of position `j` in the row `M`. -/
def pairAt (M : ℕ → EReal) (j : ℕ) : Pair := toLex (M j, j)

/-- The pair that stands for no pair. -/
def noPair : Pair := toLex (⊤, 10240)

/-- A pair's distance. -/
def Pair.dist (p : Pair) : EReal := (ofLex p).1
/-- A pair's position. -/
def Pair.pos (p : Pair) : ℕ := (ofLex p).2

/-- The distance of a position's pair. -/
theorem dist_pairAt (M : ℕ → EReal) (j : ℕ) : Pair.dist (pairAt M j) = M j := rfl
/-- The position of a position's pair. -/
theorem pos_pairAt (M : ℕ → EReal) (j : ℕ) : Pair.pos (pairAt M j) = j := rfl

/-- The finite pairs of the first `n` positions of the row `M`, nearest first. -/
def near (M : ℕ → EReal) (n : ℕ) : List Pair :=
  (((List.range n).filter fun j => decide (M j ≠ ⊤)).map (pairAt M)).insertionSort (· ≤ ·)

/-- What is in the list of nearest pairs. -/
theorem mem_near (M : ℕ → EReal) (n : ℕ) (e : Pair) : e ∈ near M n ↔ ∃ j, j < n ∧ M j ≠ ⊤ ∧ e = pairAt M j := by
  unfold near
  rw [List.mem_insertionSort]
  simp only [List.mem_map, List.mem_filter, List.mem_range, decide_eq_true_eq]
  constructor
  · rintro ⟨j, ⟨h1, h2⟩, rfl⟩; exact ⟨j, h1, h2, rfl⟩
  · rintro ⟨j, h1, h2, rfl⟩; exact ⟨j, ⟨h1, h2⟩, rfl⟩

/-- Different positions give different pairs. -/
theorem pairAt_injective (M : ℕ → EReal) : Function.Injective (pairAt M) := by
  intro a b h
  exact congrArg (fun p : Pair => (ofLex p).2) h

/-- A list in weak order without repeats is in strict order. -/
theorem strict_of_weak {L : List Pair} (h : L.Pairwise (· ≤ ·)) (hn : L.Nodup) : L.Pairwise (· < ·) := by
  refine (h.and hn).imp ?_
  rintro a b ⟨h1, h2⟩
  exact lt_of_le_of_ne h1 h2

/-- The list of nearest pairs is in strict order. -/
theorem sorted_near (M : ℕ → EReal) (n : ℕ) : (near M n).Pairwise (· < ·) := by
  refine strict_of_weak (List.pairwise_insertionSort (· ≤ ·) _) ?_
  unfold near
  rw [(List.perm_insertionSort _ _).nodup_iff]
  exact ((List.nodup_range).filter _).map (pairAt_injective M)

/-- Two lists in strict order with the same members are equal. -/
theorem eq_of_sorted_of_mem {L L' : List Pair} (h : L.Pairwise (· < ·)) (h' : L'.Pairwise (· < ·))
    (hm : ∀ e, e ∈ L ↔ e ∈ L') : L = L' := by
  have hp : L.Perm L' := (List.perm_ext_iff_of_nodup (h.imp fun h => ne_of_lt h) (h'.imp fun h => ne_of_lt h)).mpr hm
  refine hp.eq_of_pairwise (le := (· < ·)) (fun a b _ _ hab hba => absurd (lt_trans hab hba) (lt_irrefl a)) h h'

/-- Positions at no finite distance can be left out. -/
theorem near_of_le (M : ℕ → EReal) (n n' : ℕ) (hn : n ≤ n') (h : ∀ j, n ≤ j → j < n' → M j = ⊤) : near M n = near M n' := by
  refine eq_of_sorted_of_mem (sorted_near M n) (sorted_near M n') fun e => ?_
  rw [mem_near, mem_near]
  constructor
  · rintro ⟨j, h1, h2, h3⟩; exact ⟨j, lt_of_lt_of_le h1 hn, h2, h3⟩
  · rintro ⟨j, h1, h2, h3⟩
    refine ⟨j, ?_, h2, h3⟩
    by_contra hc
    exact h2 (h j (not_lt.mp hc) h1)

/-- Rows that agree on the first `n` positions have the same nearest pairs. -/
theorem near_congr (M M' : ℕ → EReal) (n : ℕ) (h : ∀ j, j < n → M j = M' j) : near M n = near M' n := by
  refine eq_of_sorted_of_mem (sorted_near M n) (sorted_near M' n) fun e => ?_
  rw [mem_near, mem_near]
  constructor
  · rintro ⟨j, h1, h2, h3⟩; exact ⟨j, h1, h j h1 ▸ h2, by rw [h3, pairAt, pairAt, h j h1]⟩
  · rintro ⟨j, h1, h2, h3⟩; exact ⟨j, h1, (h j h1).symm ▸ h2, by rw [h3, pairAt, pairAt, h j h1]⟩

/-! ## One insertion -/

/-- Slot `t` of a list after a sorted insertion, by comparisons with the two slots it may come from. -/
theorem getD_orderedInsert (e d : Pair) (he : e ≤ d) : ∀ (L : List Pair) (_ : L.Pairwise (· ≤ ·)) (_ : ∀ b ∈ L, b ≤ d) (t : ℕ),
    (L.orderedInsert (· ≤ ·) e).getD t d
      = if e ≤ L.getD t d then (match t with | 0 => e | s + 1 => if e ≤ L.getD s d then L.getD s d else e) else L.getD t d
  | [], _, _, t => by
    rcases t with _ | _ | t <;> simp [he]
  | b :: L, hs, hd, t => by
    have hs' := List.pairwise_cons.mp hs
    have hget : ∀ s, b ≤ L.getD s d := by
      intro s
      by_cases h : s < L.length
      · rw [List.getD_eq_getElem _ _ h]; exact hs'.1 _ (List.getElem_mem h)
      · rw [List.getD_eq_default _ _ (not_lt.mp h)]; exact hd b List.mem_cons_self
    by_cases hb : e ≤ b
    · have e1 : (b :: L).orderedInsert (· ≤ ·) e = e :: b :: L := by rw [List.orderedInsert_cons]; simp [hb]
      rw [e1]
      rcases t with _ | _ | t
      · simp [hb]
      · have h1 := le_trans hb (hget 0)
        rw [List.getD_cons_succ, List.getD_cons_succ, List.getD_cons_zero, if_pos h1]
        exact (if_pos hb).symm
      · have h1 := le_trans hb (hget (t + 1)); have h2 := le_trans hb (hget t)
        simp only [List.getD_cons_succ]
        rw [if_pos h1, if_pos h2]
    · have e1 : (b :: L).orderedInsert (· ≤ ·) e = b :: L.orderedInsert (· ≤ ·) e := by rw [List.orderedInsert_cons]; simp [hb]
      have ih := getD_orderedInsert e d he L hs'.2 (fun x hx => hd x (List.mem_cons_of_mem _ hx))
      rw [e1]
      rcases t with _ | _ | t
      · simp [hb]
      · rw [List.getD_cons_succ, ih 0]; simp [hb]
      · rw [List.getD_cons_succ, ih (t + 1)]; simp

/-! ## The list a lane keeps -/

/-- The finite pairs among the first `k` distances `x` of lane `l`, nearest first. -/
def kept (x : ℕ → EReal) (l : ℕ) : ℕ → List Pair
  | 0 => []
  | k + 1 => if x k = ⊤ then kept x l k else (kept x l k).orderedInsert (· ≤ ·) (toLex (x k, 128 * k + l))

/-- What a lane keeps depends only on the distances of the slices taken. -/
theorem kept_congr (x y : ℕ → EReal) (l k : ℕ) (h : ∀ i, i < k → x i = y i) : kept x l k = kept y l k := by
  induction k with
  | zero => rfl
  | succ k ih =>
    unfold kept
    rw [ih fun i hi => h i (Nat.lt_succ_of_lt hi), h k (Nat.lt_succ_self k)]

/-- What a lane keeps. -/
theorem mem_kept (x : ℕ → EReal) (l k : ℕ) (e : Pair) :
    e ∈ kept x l k ↔ ∃ i, i < k ∧ x i ≠ ⊤ ∧ e = toLex (x i, 128 * i + l) := by
  induction k with
  | zero => simp [kept]
  | succ k ih =>
    have split : (∃ i, i < k + 1 ∧ x i ≠ ⊤ ∧ e = toLex (x i, 128 * i + l))
        ↔ (x k ≠ ⊤ ∧ e = toLex (x k, 128 * k + l)) ∨ ∃ i, i < k ∧ x i ≠ ⊤ ∧ e = toLex (x i, 128 * i + l) := by
      constructor
      · rintro ⟨i, h1, h2, h3⟩
        rcases Nat.lt_succ_iff_lt_or_eq.mp h1 with h | rfl
        · exact Or.inr ⟨i, h, h2, h3⟩
        · exact Or.inl ⟨h2, h3⟩
      · rintro (⟨h2, h3⟩ | ⟨i, h1, h2, h3⟩)
        · exact ⟨k, Nat.lt_succ_self k, h2, h3⟩
        · exact ⟨i, Nat.lt_succ_of_lt h1, h2, h3⟩
    rw [split]
    unfold kept
    split_ifs with h
    · simp [h, ih]
    · rw [List.mem_orderedInsert, ih]; simp [h]

/-- A pair at a later position is after a kept pair exactly when it is not nearer. -/
theorem toLex_le_iff_of_lt (v : EReal) (p : ℕ) (b : Pair) (hp : (ofLex b).2 < p) : toLex (v, p) ≤ b ↔ v < (ofLex b).1 := by
  rw [Prod.Lex.le_iff]
  simp only [ofLex_toLex]
  constructor
  · rintro (h | ⟨_, h⟩)
    · exact h
    · omega
  · exact Or.inl

/-- A finite pair is before no pair. -/
theorem toLex_lt_noPair (v : EReal) (p : ℕ) (hv : v ≠ ⊤) : toLex (v, p) < noPair := by
  rw [Prod.Lex.lt_iff]
  exact Or.inl (lt_top_iff_ne_top.mpr hv)

/-- What a lane keeps is in strict order. -/
theorem sorted_kept (x : ℕ → EReal) (l k : ℕ) : (kept x l k).Pairwise (· < ·) := by
  induction k with
  | zero => simp [kept]
  | succ k ih =>
    unfold kept
    split_ifs with h
    · exact ih
    · refine strict_of_weak (List.Pairwise.orderedInsert _ _ (ih.imp fun h => le_of_lt h)) ?_
      rw [(List.perm_orderedInsert _ _ _).nodup_iff, List.nodup_cons]
      refine ⟨fun hm => ?_, ih.imp fun h => ne_of_lt h⟩
      obtain ⟨i, h1, -, h3⟩ := (mem_kept x l k _).mp hm
      have := congrArg (fun p : Pair => (ofLex p).2) h3
      simp only [ofLex_toLex] at this
      omega

/-- One slice's effect on slot `t` of what a lane keeps, by the comparisons the kernel makes. -/
theorem kept_slot (x : ℕ → EReal) (l k t : ℕ) :
    (kept x l (k + 1)).getD t noPair
      = if x k < Pair.dist ((kept x l k).getD t noPair) then
          (match t with
            | 0 => toLex (x k, 128 * k + l)
            | s + 1 => if x k < Pair.dist ((kept x l k).getD s noPair) then (kept x l k).getD s noPair else toLex (x k, 128 * k + l))
        else (kept x l k).getD t noPair := by
  rw [show kept x l (k + 1) = if x k = ⊤ then kept x l k else (kept x l k).orderedInsert (· ≤ ·) (toLex (x k, 128 * k + l)) from rfl]
  by_cases h : x k = ⊤
  · rw [if_pos h, if_neg (by rw [h]; exact not_top_lt)]
  · rw [if_neg h]
    have hc : ∀ s, toLex (x k, 128 * k + l) ≤ (kept x l k).getD s noPair ↔ x k < Pair.dist ((kept x l k).getD s noPair) := by
      intro s
      by_cases hs : s < (kept x l k).length
      · rw [List.getD_eq_getElem _ _ hs]
        obtain ⟨i, h1, -, h3⟩ := (mem_kept x l k _).mp (List.getElem_mem hs)
        refine toLex_le_iff_of_lt _ _ _ ?_
        rw [h3, ofLex_toLex]; show 128 * i + l < 128 * k + l; omega
      · rw [List.getD_eq_default _ _ (not_lt.mp hs)]
        exact ⟨fun _ => lt_top_iff_ne_top.mpr h, fun _ => le_of_lt (toLex_lt_noPair _ _ h)⟩
    rw [getD_orderedInsert _ noPair (le_of_lt (toLex_lt_noPair _ _ h)) _ ((sorted_kept x l k).imp fun h => le_of_lt h)]
    · simp only [hc]
    · intro b hb
      obtain ⟨i, -, h2, h3⟩ := (mem_kept x l k _).mp hb
      rw [h3]; exact le_of_lt (toLex_lt_noPair _ _ h2)

/-- The lane of a pair. -/
def inLane (l : ℕ) (e : Pair) : Bool := decide ((ofLex e).2 % 128 = l)

/-- After all eighty slices a lane keeps the row's nearest pairs of that lane. -/
theorem kept_eq_near (M : ℕ → EReal) (l : ℕ) (hl : l < 128) :
    kept (fun k => M (128 * k + l)) l 80 = (near M 10240).filter (inLane l) := by
  refine eq_of_sorted_of_mem (sorted_kept _ l 80) ((sorted_near M 10240).filter _) fun e => ?_
  rw [mem_kept, List.mem_filter, mem_near]
  constructor
  · rintro ⟨i, h1, h2, h3⟩
    refine ⟨⟨128 * i + l, by omega, h2, h3⟩, ?_⟩
    rw [h3]; simp only [inLane, decide_eq_true_eq]; show (128 * i + l) % 128 = l; omega
  · rintro ⟨⟨j, h1, h2, h3⟩, h4⟩
    rw [h3] at h4
    replace h4 : j % 128 = l := of_decide_eq_true h4
    have hj : 128 * (j / 128) + l = j := by omega
    refine ⟨j / 128, by omega, ?_, ?_⟩
    · rw [hj]; exact h2
    · rw [hj]; exact h3

/-! ## The pops -/

/-- What is left in lane `l` after `k` pops of lists that started with nine pairs each. -/
def remaining (S : List Pair) (k l : ℕ) : List Pair :=
  ((S.drop k).filter (inLane l)).take (9 - (S.take k).countP (inLane l))

/-- With the pairs used up nothing is left. -/
theorem remaining_nil (S : List Pair) (k l : ℕ) (h : S.length ≤ k) : remaining S k l = [] := by
  unfold remaining
  rw [List.drop_eq_nil_of_le h]; simp

/-- A lane other than the one popped is left as it was. -/
theorem remaining_other (S : List Pair) (k l : ℕ) (h : k < S.length) (hl : inLane l S[k] = false) :
    remaining S (k + 1) l = remaining S k l := by
  unfold remaining
  rw [List.drop_eq_getElem_cons (i := k) h, List.take_succ_eq_append_getElem h, List.countP_append,
    List.filter_cons_of_neg (by simp [hl])]
  simp [hl]

/-- The lane popped gives up its first pair, which is the row's next. -/
theorem remaining_own (S : List Pair) (k l : ℕ) (h : k < S.length) (hl : inLane l S[k] = true)
    (hc : (S.take (k + 1)).countP (inLane l) ≤ 9) :
    remaining S k l = S[k] :: remaining S (k + 1) l := by
  unfold remaining
  rw [List.take_succ_eq_append_getElem h, List.countP_append] at hc ⊢
  rw [List.drop_eq_getElem_cons h]
  have e1 : List.countP (inLane l) [S[k]] = 1 := by simp [hl]
  rw [e1] at hc ⊢
  rw [List.filter_cons_of_pos hl]
  obtain ⟨q, hq⟩ : ∃ q, 9 - List.countP (inLane l) (List.take k S) = q + 1 := ⟨9 - List.countP (inLane l) (List.take k S) - 1, by omega⟩
  rw [hq, List.take_succ_cons, show 9 - (List.countP (inLane l) (List.take k S) + 1) = q by omega]

/-- Every slot of what is left in another lane is after the row's next pair. -/
theorem next_lt_remaining (S : List Pair) (hS : S.Pairwise (· < ·)) (hf : ∀ e ∈ S, e < noPair) (k l : ℕ) (h : k < S.length)
    (hl : inLane l S[k] = false) (t : ℕ) : S[k] < (remaining S k l).getD t noPair := by
  by_cases ht : t < (remaining S k l).length
  · rw [List.getD_eq_getElem _ _ ht]
    have hm : (remaining S k l)[t] ∈ remaining S k l := List.getElem_mem ht
    have hm : (remaining S k l)[t] ∈ remaining S (k + 1) l := by rw [remaining_other S k l h hl]; exact hm
    have hm' := (List.mem_filter.mp (List.mem_of_mem_take hm)).1
    have hd := hS.sublist (List.drop_sublist k S)
    rw [List.drop_eq_getElem_cons h, List.pairwise_cons] at hd
    exact hd.1 _ hm'
  · rw [List.getD_eq_default _ _ (not_lt.mp ht)]
    exact hf _ (List.getElem_mem h)

/-- A listed pair's position never passes the number of padded rows. -/
theorem near_pos_le (M : ℕ → EReal) (n k : ℕ) (hn : n ≤ 10240) : Pair.pos ((near M n).getD k noPair) ≤ 10240 := by
  by_cases h : k < (near M n).length
  · rw [List.getD_eq_getElem _ _ h]
    obtain ⟨j, hj, -, e⟩ := (mem_near M n _).1 (List.getElem_mem h)
    rw [e, pos_pairAt]
    omega
  · rw [List.getD_eq_default _ _ (by omega)]
    exact le_refl _

end Cert.Radius

end
-- ==== Proof.Gaps.lean ====
module

public import Idealize.ShloMosaic.Lib.Pointwise
public import proofs.«01_k».proof.Proof.Nearest

/-!
The squared distances of one row over the extended reals, and what a place of the result says.
-/

@[expose] public section

noncomputable section

namespace Cert.Radius

open Idealize.ShloMosaic

/-- The squared radius. -/
def radiusSq : EReal := Ideal.ofBits .f32 1008960306#32

/-- The coordinate of a point beyond the last node. -/
def farCoord : EReal := Ideal.ofBits .f32 1120403456#32

/-- The squared distance of two nodes by their coordinates. -/
def gap (q : ℕ → Fin 3 → EReal) (r j : ℕ) : EReal :=
  max ((∑ a : Fin 3, q r a * q r a) + (∑ a : Fin 3, q j a * q j a) - Ideal.ofBits .f32 1073741824#32 * ∑ a : Fin 3, q r a * q j a) 0

/-- The squared distances of row `r`, infinite at the row itself and outside the radius. -/
def gapRow (q : ℕ → Fin 3 → EReal) (r j : ℕ) : EReal := if j ≠ r ∧ gap q r j ≤ radiusSq then gap q r j else ⊤

/-- What a place of the result says of a pair. -/
def placeOf (p : Pair) : BitVec 32 := if Pair.dist p ≤ radiusSq then BitVec.ofNat 32 (Pair.pos p) else 4294967295#32

/-- The infinite distance is the top extended real. -/
theorem far_word : Ideal.ofBits .f32 2139095040#32 = ⊤ := by simp [Ideal.ofBits, Ideal.ieee]

/-- The squared radius is a real number. -/
theorem radiusSq_eq : radiusSq = ((10715954 / 2 ^ 30 : ℝ) : EReal) := by
  unfold radiusSq
  simp [Ideal.ofBits, Ideal.ieee]
  rw [← EReal.coe_mul]
  congr 1

/-- The squared radius is finite. -/
theorem radiusSq_lt_top : radiusSq < ⊤ := by rw [radiusSq_eq]; exact EReal.coe_lt_top _

/-- The far coordinate is one hundred. -/
theorem farCoord_eq : farCoord = ((100 : ℝ) : EReal) := by
  unfold farCoord
  simp [Ideal.ofBits, Ideal.ieee]
  rw [← EReal.coe_mul]
  congr 1
  norm_num

/-- The factor of the inner product is two. -/
theorem two_word : Ideal.ofBits .f32 1073741824#32 = ((2 : ℝ) : EReal) := by
  simp [Ideal.ofBits, Ideal.ieee]
  rw [← EReal.coe_mul]
  congr 1
  norm_num

/-- A finite entry of a row is inside the radius. -/
theorem gapRow_le (q : ℕ → Fin 3 → EReal) (r j : ℕ) (h : gapRow q r j ≠ ⊤) : gapRow q r j ≤ radiusSq := by
  unfold gapRow at h ⊢
  split_ifs at h ⊢ with hc
  · exact hc.2
  · exact absurd rfl h

/-- A far point is outside the radius of every node with coordinates up to ninety-nine. -/
theorem gapRow_far (q : ℕ → Fin 3 → EReal) (r j : ℕ) (hr : ∀ a, ∃ x : ℝ, q r a = (x : EReal) ∧ x ≤ 99) (hj : ∀ a, q j a = farCoord) :
    gapRow q r j = ⊤ := by
  choose x hx hx' using hr
  have hgap : gap q r j = ((max ((∑ a, x a * x a) + (∑ _a : Fin 3, (100 : ℝ) * 100) - 2 * ∑ a, x a * 100) 0 : ℝ) : EReal) := by
    unfold gap
    simp only [hj, hx, farCoord_eq, two_word, Fin.sum_univ_three]
    norm_cast
  unfold gapRow
  rw [if_neg]
  rintro ⟨-, h⟩
  rw [hgap, radiusSq_eq, EReal.coe_le_coe_iff] at h
  have h1 := le_trans (le_max_left _ _) h
  rw [Fin.sum_univ_three, Fin.sum_univ_three, Fin.sum_univ_three] at h1
  have h2 : (10715954 / 2 ^ 30 : ℝ) < 1 := by norm_num
  nlinarith [hx' 0, hx' 1, hx' 2, mul_self_nonneg (x 1 - 100), mul_self_nonneg (x 2 - 100), mul_self_nonneg (x 0 - 99)]

end Cert.Radius

end
-- ==== Proof.Rows.lean ====
module

public import Idealize.ShloMosaic.Lib.Pointwise
public import Idealize.ShloMosaic.Lib.Pipeline.Value
public import Idealize.ShloMosaic.Lib.SortNet.Extract
public import Mathlib.Tactic.IntervalCases
public import proofs.«01_k».proof.Proof.Stages
public import proofs.«01_k».proof.Proof.Gaps

/-!
One row of a block over the extended reals: the slots hold the lane's kept pairs, and each pop reports the
row's next nearest pair as long as no lane holds more than nine of the pairs reported.
-/

@[expose] public section

noncomputable section

namespace Cert.Radius

open Idealize.ShloMosaic Idealize.SL.Sem Cert.KernelIdeal Cert.KernelIdeal.Gen

/-- A slice's effect on the first slot of distances. -/
theorem keptDist_first {F : FTy → Type} [FloatOps F] (X : ℕ → Dists F) (k : ℕ) :
    keptDist X (k + 1) 0 = select (cmpf .olt (X k) (keptDist X k 0)) (X k) (keptDist X k 0) := rfl

/-- A slice's effect on a later slot of distances. -/
theorem keptDist_later {F : FTy → Type} [FloatOps F] (X : ℕ → Dists F) (k s : ℕ) :
    keptDist X (k + 1) (s + 1) = select (cmpf .olt (X k) (keptDist X k (s + 1)))
      (select (cmpf .olt (X k) (keptDist X k s)) (keptDist X k s) (X k)) (keptDist X k (s + 1)) := rfl

/-- A slice's effect on the first slot of positions. -/
theorem keptPos_first {F : FTy → Type} [FloatOps F] (X : ℕ → Dists F) (k : ℕ) :
    keptPos X (k + 1) 0 = select (cmpf .olt (X k) (keptDist X k 0)) (slicePos k) (keptPos X k 0) := rfl

/-- A slice's effect on a later slot of positions. -/
theorem keptPos_later {F : FTy → Type} [FloatOps F] (X : ℕ → Dists F) (k s : ℕ) :
    keptPos X (k + 1) (s + 1) = select (cmpf .olt (X k) (keptDist X k (s + 1)))
      (select (cmpf .olt (X k) (keptDist X k s)) (keptPos X k s) (slicePos k)) (keptPos X k (s + 1)) := rfl

/-- Slot `t` of lane `l` after `k` slices holds the lane's kept pair number `t`. -/
theorem kept_at (X : ℕ → Dists Ideal) (r l : Fin 128) (k : ℕ) : ∀ t,
    keptDist X k t (ix2 r l) = Pair.dist ((kept (fun k => X k (ix2 r l)) l k).getD t noPair)
      ∧ keptPos X k t (ix2 r l) = BitVec.ofNat 32 (Pair.pos ((kept (fun k => X k (ix2 r l)) l k).getD t noPair)) := by
  induction k with
  | zero =>
    intro t
    refine ⟨?_, rfl⟩
    show farTile (ix2 r l) = _
    pointwise [farTile]
    exact far_word
  | succ k ih =>
    have hpos : slicePos k (ix2 r l) = BitVec.ofNat 32 (128 * k + l.val) := by
      pointwise [slicePos]
      exact (BitVec.ofNat_add ..).symm
    intro t
    obtain ⟨d0, p0⟩ := ih t
    rw [kept_slot]
    rcases t with _ | s
    · rw [keptDist_first, keptPos_first]
      pointwise
      rw [d0, p0, hpos]
      split_ifs <;> exact ⟨rfl, rfl⟩
    · obtain ⟨d1, p1⟩ := ih s
      rw [keptDist_later, keptPos_later]
      pointwise
      rw [d0, d1, p0, p1, hpos]
      split_ifs <;> exact ⟨rfl, rfl⟩

/-- A fold of `min` is below every entry and below the start, and is the start or an entry. -/
theorem fold_min_spec (f : Fin 128 → EReal) (p : EReal) (hle : ∀ l, p ≤ f l) (hmem : ∃ l, f l = p) :
    Finset.fold min ⊤ f Finset.univ = p := by
  refine le_antisymm ?_ ?_
  · obtain ⟨l, rfl⟩ := hmem
    exact (Finset.fold_min_le _).mpr (Or.inr ⟨l, Finset.mem_univ l, le_refl _⟩)
  · exact (Finset.le_fold_min _).mpr ⟨le_top, fun l _ => hle l⟩

/-- A fold of the signed minimum over words of small naturals is the word of the least one. -/
theorem fold_minsi_nat (f : Fin 128 → ℕ) (p : ℕ) (hf : ∀ l, f l ≤ 10240) (hle : ∀ l, p ≤ f l) (hmem : ∃ l, f l = p) :
    Finset.fold IntOp.minsi 2147483647#32 (fun l => BitVec.ofNat 32 (f l)) Finset.univ = BitVec.ofNat 32 p := by
  have toInt_nat : ∀ n : ℕ, n ≤ 10240 → (BitVec.ofNat 32 n).toInt = n := by
    intro n hn
    have h2 : (BitVec.ofNat 32 n).toNat = n := by rw [BitVec.toNat_ofNat, Nat.mod_eq_of_lt (by omega)]
    rw [BitVec.toInt_eq_toNat_of_lt (by rw [h2]; omega), h2]
  have hp : p ≤ 10240 := by obtain ⟨l, rfl⟩ := hmem; exact hf l
  have key : ∀ s : Finset (Fin 128),
      (Finset.fold IntOp.minsi 2147483647#32 (fun l => BitVec.ofNat 32 (f l)) s).toInt
        = Finset.fold min (2147483647 : ℤ) (fun l => (f l : ℤ)) s := by
    intro s
    induction s using Finset.induction_on with
    | empty => rfl
    | insert a s ha ih =>
      rw [Finset.fold_insert ha, Finset.fold_insert ha, SortNet.toInt_minsi, ih, toInt_nat _ (hf a)]
  apply BitVec.eq_of_toInt_eq
  rw [key, toInt_nat _ hp]
  refine le_antisymm ?_ ?_
  · obtain ⟨l, rfl⟩ := hmem
    exact (Finset.fold_min_le _).mpr (Or.inr ⟨l, Finset.mem_univ l, le_refl _⟩)
  · exact (Finset.le_fold_min _).mpr ⟨by omega, fun l _ => by exact_mod_cast hle l⟩

/-- The least pair of a row: its distance, its position, and the lanes that hold it. -/
theorem pop_at (A : Dists Ideal) (B : Poss) (r : Fin 128) (h : Fin 128 → Pair) (hb : ∀ l, Pair.pos (h l) ≤ 10240)
    (hA : ∀ l, A (ix2 r l) = Pair.dist (h l)) (hB : ∀ l, B (ix2 r l) = BitVec.ofNat 32 (Pair.pos (h l)))
    (p : Pair) (hle : ∀ l, p ≤ h l) (hmem : ∃ l, h l = p) :
    leastDist A (ix2 r 0) = Pair.dist p ∧ leastPos A B (ix2 r 0) = BitVec.ofNat 32 (Pair.pos p)
      ∧ ∀ l, popped A B (ix2 r l) = BitVec.ofBool (decide (h l = p)) := by
  have hdist : ∀ l, Pair.dist p ≤ Pair.dist (h l) := by
    intro l
    rcases Prod.Lex.le_iff.mp (hle l) with h | ⟨h, _⟩
    · exact le_of_lt h
    · exact le_of_eq h
  have hpb : Pair.pos p ≤ 10240 := by obtain ⟨l, rfl⟩ := hmem; exact hb l
  have e1 : leastDist A (ix2 r 0) = Pair.dist p := by
    pointwise [leastDist]
    rw [far_word]
    refine fold_min_spec _ _ (fun l => by rw [hA]; exact hdist l) ?_
    obtain ⟨l, hl⟩ := hmem
    exact ⟨l, by rw [hA, hl]⟩
  have e2 : leastPos A B (ix2 r 0) = BitVec.ofNat 32 (Pair.pos p) := by
    pointwise [leastPos, atLeast, noTile]
    rw [e1]
    have : (fun x => if A (ix2 r x) = Pair.dist p then B (ix2 r x) else 10240#32)
        = fun l => BitVec.ofNat 32 (if Pair.dist (h l) = Pair.dist p then Pair.pos (h l) else 10240) := by
      funext l
      rw [hA, hB]
      split_ifs <;> rfl
    rw [this]
    refine fold_minsi_nat _ _ (fun l => ?_) (fun l => ?_) ?_
    · split_ifs
      · exact hb l
      · exact le_refl _
    · split_ifs with hd
      · rcases Prod.Lex.le_iff.mp (hle l) with h | ⟨_, h⟩
        · exact absurd hd (ne_of_gt h)
        · exact h
      · exact hpb
    · obtain ⟨l, hl⟩ := hmem
      exact ⟨l, by rw [hl, if_pos rfl]⟩
  refine ⟨e1, e2, fun l => ?_⟩
  pointwise [popped, atLeast]
  rw [e1, e2, hA, hB]
  have hw : (BitVec.ofNat 32 (Pair.pos (h l)) == BitVec.ofNat 32 (Pair.pos p)) = decide (Pair.pos (h l) = Pair.pos p) := by
    have := hb l
    rw [Bool.eq_iff_iff, beq_iff_eq, decide_eq_true_iff]
    constructor
    · intro h
      have := congrArg BitVec.toNat h
      rw [BitVec.toNat_ofNat, BitVec.toNat_ofNat, Nat.mod_eq_of_lt (by omega), Nat.mod_eq_of_lt (by omega)] at this
      exact this
    · intro h; rw [h]
  have hp : h l = p ↔ Pair.dist (h l) = Pair.dist p ∧ Pair.pos (h l) = Pair.pos p := by
    constructor
    · intro h; rw [h]; exact ⟨rfl, rfl⟩
    · rintro ⟨h1, h2⟩
      exact congrArg toLex (Prod.ext h1 h2 : (ofLex (h l)) = ofLex p)
  show BitVec.and (BitVec.ofBool _) (BitVec.ofBool (_ == _)) = _
  rw [hw]
  by_cases c1 : Pair.dist (h l) = Pair.dist p <;> by_cases c2 : Pair.pos (h l) = Pair.pos p <;> simp only [hp, c1, c2, decide_true, decide_false, and_self, and_true, true_and, and_false, false_and] <;> rfl

/-! ## The pops -/

/-- A pop's effect on slot `t`: where the lane is popped it takes the next slot, or nothing in the last one. -/
theorem left_step {F : FTy → Type} [FloatOps F] (A : ℕ → Dists F) (B : ℕ → Poss) (k t : ℕ) (ht : t < 8) :
    left A B (k + 1) t
      = (select (popped (left A B k 0).1 (left A B k 0).2) (left A B k (t + 1)).1 (left A B k t).1,
          select (popped (left A B k 0).1 (left A B k 0).2) (left A B k (t + 1)).2 (left A B k t).2) := by
  interval_cases t <;> rfl

/-- A pop's effect on the last slot. -/
theorem left_last {F : FTy → Type} [FloatOps F] (A : ℕ → Dists F) (B : ℕ → Poss) (k : ℕ) :
    left A B (k + 1) 8
      = (select (popped (left A B k 0).1 (left A B k 0).2) farTile (left A B k 8).1,
          select (popped (left A B k 0).1 (left A B k 0).2) noTile (left A B k 8).2) := rfl

/-- The list a lane has left is at most nine long. -/
theorem length_remaining (S : List Pair) (k l : ℕ) : (remaining S k l).length ≤ 9 := by
  unfold remaining
  rw [List.length_take]; omega

/-- The slots of a list by their pairs, at position `t`. -/
def holds (p : Pair) (v : EReal) (w : BitVec 32) : Prop := v = Pair.dist p ∧ w = BitVec.ofNat 32 (Pair.pos p)

/-- The row's next pair is the least of the lanes' first ones. -/
theorem next_spec (S : List Pair) (hS : S.Pairwise (· < ·)) (hf : ∀ e ∈ S, e < noPair) (k : ℕ)
    (hc : ∀ l : Fin 128, (S.take (k + 1)).countP (inLane l) ≤ 9) :
    (∀ l : Fin 128, S.getD k noPair ≤ (remaining S k l).getD 0 noPair)
      ∧ (∃ l : Fin 128, (remaining S k l).getD 0 noPair = S.getD k noPair)
      ∧ ∀ (l : Fin 128) (t : ℕ), (remaining S (k + 1) l).getD t noPair
          = if (remaining S k l).getD 0 noPair = S.getD k noPair then (remaining S k l).getD (t + 1) noPair
            else (remaining S k l).getD t noPair := by
  by_cases h : k < S.length
  · rw [List.getD_eq_getElem _ _ h]
    have own : ∀ l : Fin 128, inLane l S[k] = true → (remaining S k l).getD 0 noPair = S[k] := by
      intro l hl
      rw [remaining_own S k l h hl (hc l)]; rfl
    have other : ∀ l : Fin 128, inLane l S[k] = false → S[k] < (remaining S k l).getD 0 noPair :=
      fun l hl => next_lt_remaining S hS hf k l h hl 0
    refine ⟨fun l => ?_, ⟨⟨Pair.pos S[k] % 128, Nat.mod_lt _ (by decide)⟩, own _ (decide_eq_true rfl)⟩, fun l t => ?_⟩
    · cases hl : inLane l S[k] with
      | true => exact le_of_eq (own l hl).symm
      | false => exact le_of_lt (other l hl)
    · cases hl : inLane l S[k] with
      | true =>
        rw [if_pos (own l hl), remaining_own S k l h hl (hc l), List.getD_cons_succ]
      | false =>
        rw [if_neg (ne_of_gt (other l hl)), remaining_other S k l h hl]
  · have h' := not_lt.mp h
    rw [List.getD_eq_default _ _ h']
    have e : ∀ l : Fin 128, remaining S k l = [] := fun l => remaining_nil S k l h'
    have e' : ∀ l : Fin 128, remaining S (k + 1) l = [] := fun l => remaining_nil S (k + 1) l (Nat.le_succ_of_le h')
    refine ⟨fun l => ?_, ⟨0, ?_⟩, fun l t => ?_⟩
    · rw [e]; exact le_refl _
    · rw [e]; rfl
    · rw [e, e']; simp

/-- After `k` pops slot `t` of lane `l` holds what is left in that lane. -/
theorem left_at (A : ℕ → Dists Ideal) (B : ℕ → Poss) (r : Fin 128) (S : List Pair) (hS : S.Pairwise (· < ·))
    (hf : ∀ e ∈ S, e < noPair ∧ Pair.pos e ≤ 10240)
    (hA : ∀ (l : Fin 128) (t : ℕ), t ≤ 8 → holds ((S.filter (inLane l)).getD t noPair) (A t (ix2 r l)) (B t (ix2 r l)))
    (hc : ∀ l : Fin 128, (S.take 32).countP (inLane l) ≤ 9) (k : ℕ) (hk : k ≤ 32) :
    ∀ (l : Fin 128) (t : ℕ), t ≤ 8 →
      holds ((remaining S k l).getD t noPair) ((left A B k t).1 (ix2 r l)) ((left A B k t).2 (ix2 r l)) := by
  induction k with
  | zero =>
    intro l t ht
    have e : (remaining S 0 l).getD t noPair = (S.filter (inLane l)).getD t noPair := by
      unfold remaining
      rw [List.getD_eq_getElem?_getD, List.getD_eq_getElem?_getD, List.getElem?_take]
      simp [show t < 9 by omega]
    rw [e]
    exact hA l t ht
  | succ k ih =>
    have ih := ih (by omega)
    have hc' : ∀ l : Fin 128, (S.take (k + 1)).countP (inLane l) ≤ 9 := fun l =>
      le_trans ((List.take_sublist_take_left hk).countP_le) (hc l)
    obtain ⟨n1, n2, n3⟩ := next_spec S hS (fun e he => (hf e he).1) k hc'
    have hb : ∀ l : Fin 128, Pair.pos ((remaining S k l).getD 0 noPair) ≤ 10240 := by
      intro l
      by_cases h0 : 0 < (remaining S k l).length
      · rw [List.getD_eq_getElem _ _ h0]
        exact (hf _ (List.mem_of_mem_drop (List.mem_filter.mp (List.mem_of_mem_take (List.getElem_mem h0))).1)).2
      · rw [List.getD_eq_default _ _ (not_lt.mp h0)]; exact le_refl _
    obtain ⟨-, -, hp⟩ := pop_at (left A B k 0).1 (left A B k 0).2 r (fun l => (remaining S k l).getD 0 noPair) hb
      (fun l => (ih l 0 (by omega)).1) (fun l => (ih l 0 (by omega)).2) _ n1 n2
    intro l t ht
    rw [n3 l t]
    rcases Nat.lt_or_ge t 8 with h8 | h8
    · rw [left_step A B k t h8]
      pointwise
      rw [hp l]
      obtain ⟨a1, a2⟩ := ih l t ht
      obtain ⟨b1, b2⟩ := ih l (t + 1) (by omega)
      rw [a1, a2, b1, b2]
      by_cases hq : (remaining S k l).getD 0 noPair = S.getD k noPair
      · rw [if_pos hq]; simp only [hq, decide_true]; exact ⟨rfl, rfl⟩
      · rw [if_neg hq]; simp only [hq, decide_false]; exact ⟨rfl, rfl⟩
    · obtain rfl : t = 8 := by omega
      rw [left_last A B k]
      pointwise [farTile, noTile]
      rw [hp l, far_word, List.getD_eq_default _ _ (show (remaining S k l).length ≤ 8 + 1 from length_remaining S k l)]
      obtain ⟨a1, a2⟩ := ih l 8 ht
      rw [a1, a2]
      by_cases hq : (remaining S k l).getD 0 noPair = S.getD k noPair
      · rw [if_pos hq]; simp only [hq, decide_true]; exact ⟨rfl, rfl⟩
      · rw [if_neg hq]; simp only [hq, decide_false]; exact ⟨rfl, rfl⟩

/-- The `k`-th pop of row `r` reports the row's nearest pair number `k`. -/
theorem reported_at (A : ℕ → Dists Ideal) (B : ℕ → Poss) (r : Fin 128) (S : List Pair) (hS : S.Pairwise (· < ·))
    (hf : ∀ e ∈ S, e < noPair ∧ Pair.pos e ≤ 10240)
    (hA : ∀ (l : Fin 128) (t : ℕ), t ≤ 8 → holds ((S.filter (inLane l)).getD t noPair) (A t (ix2 r l)) (B t (ix2 r l)))
    (hc : ∀ l : Fin 128, (S.take 32).countP (inLane l) ≤ 9) (k : ℕ) (hk : k < 32) :
    reported A B k (ix2 r 0) = placeOf (S.getD k noPair) := by
  have ih := left_at A B r S hS hf hA hc k (by omega)
  have hc' : ∀ l : Fin 128, (S.take (k + 1)).countP (inLane l) ≤ 9 := fun l =>
    le_trans ((List.take_sublist_take_left hk).countP_le) (hc l)
  obtain ⟨n1, n2, n3⟩ := next_spec S hS (fun e he => (hf e he).1) k hc'
  have hb : ∀ l : Fin 128, Pair.pos ((remaining S k l).getD 0 noPair) ≤ 10240 := by
    intro l
    by_cases h0 : 0 < (remaining S k l).length
    · rw [List.getD_eq_getElem _ _ h0]
      exact (hf _ (List.mem_of_mem_drop (List.mem_filter.mp (List.mem_of_mem_take (List.getElem_mem h0))).1)).2
    · rw [List.getD_eq_default _ _ (not_lt.mp h0)]; exact le_refl _
  obtain ⟨h1, h2, -⟩ := pop_at (left A B k 0).1 (left A B k 0).2 r (fun l => (remaining S k l).getD 0 noPair) hb
    (fun l => (ih l 0 (by omega)).1) (fun l => (ih l 0 (by omega)).2) _ n1 n2
  pointwise [reported, report]
  rw [h1, h2]
  rfl

/-- One of thirty-two columns side by side is that column. -/
theorem reports_at (R : ℕ → IVec S128x1 32) (r : Fin 128) (k : Fin 32) : reports R (ix2 r k) = R k (ix2 r 0) := by
  refine concatenate_ofFn_unit_apply (s₁ := S128x1) (N := 32) (1 : Fin S128x32.rank) (fun n => R n) _ rfl rfl (ix2 r k) k rfl (ix2 r 0) ?_
  intro b hb
  fin_cases b
  · rfl
  · exact absurd rfl hb

set_option maxRecDepth 16384 in
/-- One entry of a block's sources: place `k` of row `r`, from the row `M` of the block's distances. -/
theorem blockSrc_at (X : ℕ → Dists Ideal) (r : Fin 128) (k : Fin 32) (M : ℕ → EReal)
    (hX : ∀ (l : Fin 128) (i : ℕ), i < 80 → X i (ix2 r l) = M (128 * i + l))
    (hc : ∀ l : Fin 128, ((near M 10240).take 32).countP (inLane l) ≤ 9) :
    blockSrc X (ix2 r k) = placeOf ((near M 10240).getD k noPair) := by
  have key : ∀ i, i < 32 → reported (keptDist X 80) (keptPos X 80) i (ix2 r 0) = placeOf ((near M 10240).getD i noPair) := by
    intro i hi
    refine reported_at _ _ r (near M 10240) (sorted_near M 10240) ?_ ?_ hc i hi
    · intro e he
      obtain ⟨j, hj, hM, rfl⟩ := (mem_near M 10240 e).mp he
      exact ⟨toLex_lt_noPair _ _ hM, le_of_lt hj⟩
    · intro l t _
      have := kept_at X r l 80 t
      rw [← kept_eq_near M l l.isLt]
      rw [kept_congr (fun k => X k (ix2 r l)) (fun k => M (128 * k + l)) l 80 fun i hi => hX l i hi] at this
      exact this
  exact (reports_at _ r k).trans (key k k.isLt)

end Cert.Radius

end
-- ==== Proof.Block.lean ====
module

public import Idealize.ShloMosaic.Lib.Pointwise
public import Idealize.ShloMosaic.Lib.Pipeline.ReadBack
public import Idealize.ShloMosaic.Lib.Pipeline.ValueKit
public import proofs.«01_k».proof.Proof.Stages
public import proofs.«01_k».proof.Proof.Rows

/-!
The distances that one block reads back from its scratch row, as distances of the padded positions, and
from them what the block writes.
-/

@[expose] public section

set_option maxRecDepth 16384

noncomputable section

namespace Cert.Radius

open Idealize.ShloMosaic Idealize.SL.Sem Cert.KernelIdeal Cert.KernelIdeal.Gen

variable {F : FTy → Type} [FloatOps F]

/-- A choice by two tests at once. -/
theorem select_both (p p' : Prop) [Decidable p] [Decidable p'] (x y : EReal) :
    Scalar.select (IntOp.andi (BitVec.ofBool (decide p)) (BitVec.ofBool (decide p'))) x y
      = if p ∧ p' then x else y := by
  by_cases h : p <;> by_cases h' : p' <;> simp [Scalar.select, IntOp.andi, h, h']

/-- The mask of one block: an entry is a distance, kept when it is no larger than the radius and is not the
row's distance to itself. -/
theorem k0_pay2_at (q : ℕ → Fin 3 → EReal) (t : ℕ) (ht : t < 80) (i : grid0.Coords) (hi : (i 0).val = t)
    (v0 : FVec Ideal S128x3 .f32) (v2 : FVec Ideal S3x10240 .f32)
    (h0 : ∀ (r : Fin 128) (a : Fin 3), v0 (ix2 r a) = q (128 * t + r) a)
    (h2 : ∀ (j : Fin 10240) (a : Fin 3), v2 (ix2 a j) = q j a) (r : Fin 128) (j : Fin 10240) :
    k0_pay2 (F := Ideal) i v0 v2 (ix2 r j) = gapRow q (128 * t + r) j := by
  have e : ((BitVec.ofNat 32 j.val != BitVec.ofNat 32 r.val + BitVec.ofNat 32 t * 128#32) = true)
      ↔ j.val ≠ 128 * t + r.val := by
    rw [bne_iff_ne, not_iff_not, ← BitVec.toNat_inj]
    simp only [BitVec.toNat_ofNat, BitVec.toNat_add, BitVec.toNat_mul]
    have := r.isLt; have := j.isLt
    constructor <;> intro h <;> omega
  pointwise [k0_pay2, id_eq]
  simp only [h0, h2, hi]
  have e' : IntOp.cmpi CmpIPredicate.ne (BitVec.ofNat 32 j.val)
      (IntOp.addi (BitVec.ofNat 32 r.val) (Scalar.muli (BitVec.ofNat 32 t) 128#32))
      = BitVec.ofBool (decide (j.val ≠ 128 * t + r.val)) := by
    show BitVec.ofBool _ = _
    congr 1
    rw [Bool.eq_iff_iff, decide_eq_true_iff]
    exact e
  rw [e', far_word, select_both]
  unfold gapRow gap radiusSq
  by_cases hj : j.val = 128 * t + r.val
  · rw [if_neg (fun h => h.2 hj), if_neg (fun h => h.1 hj)]
  · by_cases hd : max ((∑ a, q (128 * t + r) a * q (128 * t + r) a) + (∑ a, q j a * q j a)
        - Ideal.ofBits .f32 1073741824#32 * ∑ a, q (128 * t + r) a * q j a) 0 ≤ Ideal.ofBits .f32 1008960306#32
    · rw [if_pos ⟨hd, hj⟩, if_pos ⟨hj, hd⟩]
    · rw [if_neg (fun h => hd h.1), if_neg (fun h => hd h.2)]

/-- What a block loads from its scratch is the row of distances it stored there. -/
theorem loaded_at (c : Dev nD) (i : grid0.Coords) (arg1 : Memref sig .tc .vmem S128x3 .f32) (harg1 : arg1.IsWhole)
    (arg2 : Memref sig .tc .vmem S3x10240 .f32) (harg2 : arg2.IsWhole) (arg5 : Memref sig .tc .vmem S128x10240 .f32)
    (x0 : Vec F S128x3 .f32) (x1 : Vec F S3x10240 .f32) (k : ℕ) (hk : k < 80) (r l : Fin 128) :
    loaded c i arg1 harg1 arg2 harg2 arg5 x0 x1 k (ix2 r l) = k0_pay2 i x0 x1 (ix2 r ⟨128 * k + l, by omega⟩) := by
  unfold loaded
  rw [dif_pos hk]
  unfold kernelRun0_A.sl.HS0_1
  rw [View.readCov_fill _ _ _ _ _ (by decide), View.readAt_eq_ld, View.readAt_eq_ld, harg1.read_unread,
    harg2.read_unread, View.ld_unit_lit _ _ (by decide), View.ld_unit_lit _ _ (by decide)]
  refine View.ld_unit_apply_of _ _ _ _ _ _ fun a => ?_
  match a with
  | 0 => exact (Nat.zero_add _).symm
  | 1 => rfl

/-- The sources of a block, from the padded positions. -/
theorem blockSrc_loaded (q : ℕ → Fin 3 → EReal) (t : ℕ) (ht : t < 80) (c : Dev nD) (i : grid0.Coords)
    (hi : (i 0).val = t) (arg1 : Memref sig .tc .vmem S128x3 .f32) (harg1 : arg1.IsWhole)
    (arg2 : Memref sig .tc .vmem S3x10240 .f32) (harg2 : arg2.IsWhole) (arg5 : Memref sig .tc .vmem S128x10240 .f32)
    (x0 : FVec Ideal S128x3 .f32) (x1 : FVec Ideal S3x10240 .f32)
    (h0 : ∀ (r : Fin 128) (a : Fin 3), x0 (ix2 r a) = q (128 * t + r) a)
    (h1 : ∀ (j : Fin 10240) (a : Fin 3), x1 (ix2 a j) = q j a) (r : Fin 128) (k : Fin 32)
    (hc : ∀ l : Fin 128, ((near (gapRow q (128 * t + r)) 10240).take 32).countP (inLane l) ≤ 9) :
    blockSrc (F := Ideal) (loaded c i arg1 harg1 arg2 harg2 arg5 x0 x1) (ix2 r k)
      = placeOf ((near (gapRow q (128 * t + r)) 10240).getD k noPair) := by
  refine blockSrc_at _ r k _ (fun l j hj => ?_) hc
  rw [loaded_at _ _ _ _ _ _ _ _ _ _ hj, k0_pay2_at q t ht i hi x0 x1 h0 h1]

/-- The destinations of a block, from its sources: the row's own number where a source stands. -/
theorem k0_pay1_at (t : ℕ) (src : IVec S128x32 32) (r : Fin 128) (k : Fin 32) (M : ℕ → EReal)
    (hs : src (ix2 r k) = placeOf ((near M 10240).getD k noPair)) :
    k0_pay1 (BitVec.ofNat 32 t) src (ix2 r k)
      = if Pair.dist ((near M 10240).getD k noPair) ≤ radiusSq then BitVec.ofNat 32 (128 * t + r)
        else 4294967295#32 := by
  have hp := near_pos_le M 10240 k (le_refl _)
  have e : IntOp.addi (BitVec.ofNat 32 r.val) (Scalar.muli (BitVec.ofNat 32 t) 128#32)
      = BitVec.ofNat 32 (128 * t + r.val) := by
    show BitVec.ofNat 32 r.val + BitVec.ofNat 32 t * BitVec.ofNat 32 128 = _
    rw [← BitVec.ofNat_mul, ← BitVec.ofNat_add]
    congr 1
    omega
  pointwise [k0_pay1, id_eq]
  rw [hs, e]
  unfold placeOf
  split_ifs with h
  · have g : IntOp.cmpi CmpIPredicate.sge (BitVec.ofNat 32 (Pair.pos ((near M 10240).getD k noPair))) 0#32 = 1#1 := by
      show BitVec.ofBool (BitVec.sle 0#32 (BitVec.ofNat 32 _)) = 1#1
      generalize Pair.pos ((near M 10240).getD k noPair) = n at hp
      have : BitVec.sle 0#32 (BitVec.ofNat 32 n) = true := by
        rw [BitVec.sle_eq_decide, decide_eq_true_iff, BitVec.toInt_ofNat', BitVec.toInt_ofNat',
          Int.bmod_def, Int.bmod_def]
        split_ifs <;> omega
      rw [this]
      rfl
    rw [g]
    rfl
  · rfl

end Cert.Radius
end
-- ==== Proof.Sorted.lean ====
module

public import Idealize.ShloMosaic.Lib.Pointwise
public import proofs.«01_k».proof.Proof.Nearest

/-!
A stable sort of the positions of one row by distance, read as the list of the row's nearest pairs.
-/

@[expose] public section

noncomputable section

namespace Cert.Radius

open Idealize.ShloMosaic

/-- Inserting an earlier position by distance alone is the sorted insertion of its pair. -/
theorem map_insertBefore {n : ℕ} (M : ℕ → EReal) (before : Fin n → Fin n → Bool)
    (hb : ∀ a b, before a b = decide (M a < M b)) (a : Fin n) :
    ∀ (L : List (Fin n)) (_ : ∀ b ∈ L, a < b),
      (insertBefore before a L).map (fun i : Fin n => pairAt M i.val) = (L.map fun i : Fin n => pairAt M i.val).orderedInsert (· ≤ ·) (pairAt M a)
  | [], _ => by simp [insertBefore]
  | b :: L, h => by
    have hab : a.val < b.val := h b List.mem_cons_self
    have hc : pairAt M a ≤ pairAt M b ↔ ¬ M b < M a := by
      rw [not_lt, Prod.Lex.le_iff]
      constructor
      · rintro (h | ⟨h, _⟩)
        · exact le_of_lt h
        · exact le_of_eq h
      · intro h
        rcases lt_or_eq_of_le h with h | h
        · exact Or.inl h
        · exact Or.inr ⟨h, le_of_lt hab⟩
    rw [List.map_cons, List.orderedInsert_cons]
    unfold insertBefore
    by_cases h1 : M b < M a
    · rw [if_pos (by rw [hb]; exact decide_eq_true h1), if_neg (by rw [hc]; exact not_not_intro h1), List.map_cons,
        map_insertBefore M before hb a L fun x hx => h x (List.mem_cons_of_mem _ hx)]
    · rw [if_neg (by rw [hb]; simpa using h1), if_pos (hc.mpr h1)]; rfl

/-- The stable sort of a list of increasing positions is, pair by pair, the sorted list of pairs. -/
theorem map_stableSort {n : ℕ} (M : ℕ → EReal) (before : Fin n → Fin n → Bool)
    (hb : ∀ a b, before a b = decide (M a < M b)) :
    ∀ (L : List (Fin n)) (_ : L.Pairwise (· < ·)),
      (stableSort before L).map (fun i : Fin n => pairAt M i.val) = (L.map fun i : Fin n => pairAt M i.val).insertionSort (· ≤ ·)
        ∧ ∀ b, b ∈ stableSort before L ↔ b ∈ L
  | [], _ => ⟨by simp [stableSort], fun _ => Iff.rfl⟩
  | a :: L, h => by
    obtain ⟨h1, h2⟩ := List.pairwise_cons.mp h
    obtain ⟨ih, im⟩ := map_stableSort M before hb L h2
    have e : (insertBefore before a (stableSort before L)).map (fun i : Fin n => pairAt M i.val)
        = ((a :: L).map fun i : Fin n => pairAt M i.val).insertionSort (· ≤ ·) := by
      rw [map_insertBefore M before hb a _ fun b hb' => h1 b ((im b).mp hb'), ih, List.map_cons, List.insertionSort_cons]
    refine ⟨e, fun b => ?_⟩
    have hi : Function.Injective fun i : Fin n => pairAt M i.val := fun i j hij => Fin.ext (pairAt_injective M hij)
    rw [show stableSort before (a :: L) = insertBefore before a (stableSort before L) from rfl, ← List.mem_map_of_injective hi, e,
      List.mem_insertionSort, List.mem_map_of_injective hi]

/-- In a sorted list the members of a set closed below come first. -/
theorem split_sorted (p : Pair → Bool) (hp : ∀ a b, a ≤ b → p b = true → p a = true) :
    ∀ (L : List Pair) (_ : L.Pairwise (· ≤ ·)), L = L.filter p ++ L.filter (fun e => !p e)
  | [], _ => rfl
  | a :: L, h => by
    obtain ⟨h1, h2⟩ := List.pairwise_cons.mp h
    have ih := split_sorted p hp L h2
    by_cases ha : p a = true
    · rw [List.filter_cons_of_pos ha, List.filter_cons_of_neg (by simp [ha]), List.cons_append, ← ih]
    · have hn : ∀ b ∈ L, ¬ p b = true := fun b hb hpb => ha (hp a b (h1 b hb) hpb)
      rw [List.filter_cons_of_neg ha, List.filter_cons_of_pos (by simp [ha]), List.filter_eq_nil_iff.mpr hn, List.nil_append]
      rw [List.filter_eq_self.mpr fun b hb => by simp [hn b hb]]

/-- Entry `k` of a stable sort by distance is entry `k` of the nearest pairs, or a position at no finite distance. -/
theorem near_getD_sortedFrom {n : ℕ} (M : ℕ → EReal) (before : Fin n → Fin n → Bool)
    (hb : ∀ a b, before a b = decide (M a < M b)) (k : Fin n) :
    (near M n).getD k noPair = if M (sortedFrom before k) = ⊤ then noPair else pairAt M (sortedFrom before k) := by
  obtain ⟨h1, h2⟩ := map_stableSort M before hb (List.finRange n) (List.pairwise_lt_finRange n)
  set A := (stableSort before (List.finRange n)).map fun i : Fin n => pairAt M i.val with hA
  have hs : A.Pairwise (· ≤ ·) := h1 ▸ List.pairwise_insertionSort (· ≤ ·) _
  have hlen : A.length = n := by rw [hA, List.length_map, length_stableSort, List.length_finRange]
  have hk : k.val < A.length := by rw [hlen]; exact k.isLt
  have hAk : A[k.val] = pairAt M (sortedFrom before k) := by
    simp only [hA, List.getElem_map]
    rfl
  have hmem : ∀ e, e ∈ A ↔ ∃ j, j < n ∧ e = pairAt M j := by
    intro e
    rw [hA, List.mem_map]
    constructor
    · rintro ⟨i, -, rfl⟩; exact ⟨i, i.isLt, rfl⟩
    · rintro ⟨j, hj, rfl⟩; exact ⟨⟨j, hj⟩, (h2 _).mpr (List.mem_finRange _), rfl⟩
  have hnd : A.Nodup := by
    have hi : Function.Injective fun i : Fin n => pairAt M i.val := fun i j hij => Fin.ext (pairAt_injective M hij)
    rw [h1, (List.perm_insertionSort _ _).nodup_iff]
    exact (List.nodup_finRange n).map hi
  let p : Pair → Bool := fun e => decide ((ofLex e).1 ≠ ⊤)
  have hf : A.filter p = near M n := by
    refine eq_of_sorted_of_mem ((strict_of_weak hs hnd).filter _) (sorted_near M n) fun e => ?_
    rw [List.mem_filter, hmem, mem_near]
    constructor
    · rintro ⟨⟨j, hj, rfl⟩, hp⟩; exact ⟨j, hj, of_decide_eq_true hp, rfl⟩
    · rintro ⟨j, hj, hp, rfl⟩; exact ⟨⟨j, hj, rfl⟩, decide_eq_true hp⟩
  have hsplit := split_sorted p (fun a b hab hb' => by
    have hb'' : (ofLex b).1 ≠ ⊤ := of_decide_eq_true hb'
    refine decide_eq_true fun ha => hb'' ?_
    rcases (Prod.Lex.le_iff).mp hab with h | ⟨h, _⟩
    · rw [ha] at h; exact absurd h not_top_lt
    · rw [← h, ha]) A hs
  rw [hf] at hsplit
  by_cases hkn : k.val < (near M n).length
  · have e : A[k.val] = (near M n)[k.val] := by
      have : A[k.val]? = (near M n)[k.val]? := by rw [hsplit, List.getElem?_append_left hkn]
      rw [List.getElem?_eq_getElem hk, List.getElem?_eq_getElem hkn] at this
      exact Option.some.inj this
    have hm : (near M n)[k.val] ∈ near M n := List.getElem_mem hkn
    rw [List.getD_eq_getElem _ _ hkn, ← e, hAk]
    rw [← e, hAk] at hm
    obtain ⟨j, -, hj, hjj⟩ := (mem_near M n _).mp hm
    rw [← pairAt_injective M hjj] at hj
    rw [if_neg hj]
  · rw [List.getD_eq_default _ _ (not_lt.mp hkn)]
    have hm : A[k.val] ∈ A.filter (fun e => !p e) := by
      have : A[k.val]? = (A.filter (fun e => !p e))[k.val - (near M n).length]? := by
        conv_lhs => rw [hsplit]
        rw [List.getElem?_append_right (not_lt.mp hkn)]
      rw [List.getElem?_eq_getElem hk] at this
      exact List.mem_of_getElem? this.symm
    rw [hAk] at hm
    have hp := (List.mem_filter.mp hm).2
    have : M (sortedFrom before k) = ⊤ := by
      by_contra hc
      have : p (pairAt M (sortedFrom before k)) = true := decide_eq_true hc
      rw [this] at hp; exact absurd hp (by decide)
    rw [if_pos this]

end Cert.Radius

end
-- ==== Proof.Table.lean ====
module

public import Idealize.ShloMosaic.Lib.Pointwise
public import proofs.«01_k».proof.Proof.Gen.ReferenceIdeal.Run
public import proofs.«01_k».proof.Proof.Gaps
public import proofs.«01_k».proof.Proof.Sorted

/-!
What the reference computes, as one function of the positions, and its entries.
-/

@[expose] public section

noncomputable section

namespace Cert.Radius

open Idealize.ShloMosaic Idealize.SL.Sem Cert.ReferenceIdeal Cert.ReferenceIdeal.Gen

variable {F : FTy → Type} [FloatOps F]

/-- Every node's squared length. -/
def refSq (p : FVec F S10000x3 .f32) : FVec F S10000 .f32 :=
  Host.reduceAdd (mulf p p) (constant S_ .f32 0x00000000#32) reducesTo_S10000x3_S10000_d1 h_S_

/-- Every pair's squared distance, infinite on the diagonal. -/
def refGap (p : FVec F S10000x3 .f32) : FVec F S10000x10000 .f32 :=
  addf (maximumf (subf
      (addf (broadcastInDim S10000x10000 ![0, 1] bcast_S10000x1_S10000x10000_0_1 (broadcastInDim S10000x1 ![0] bcast_S10000_S10000x1_0 (refSq p)))
        (broadcastInDim S10000x10000 ![0, 1] bcast_S1x10000_S10000x10000_0_1 (broadcastInDim S1x10000 ![1] bcast_S10000_S1x10000_1 (refSq p))))
      (mulf (broadcastInDim S10000x10000 ![] bcast_S_S10000x10000 (constant S_ .f32 0x40000000#32))
        (Host.dotGeneral dot_S10000x3_S3x10000_S10000x10000_1_0_0_1_n_n none p (transpose S3x10000 [1, 0] p transposes_S10000x3_S3x10000_1_0))))
      (broadcastInDim S10000x10000 ![] bcast_S_S10000x10000 (constant S_ .f32 0x00000000#32)))
    (id (select (cmpi .eq (addi (iotaInDim S10000x10000 32 0) (broadcastInDim S10000x10000 ![] bcast_S_S10000x10000 (constantI S_ 32 0#32)))
        (iotaInDim S10000x10000 32 1))
      (broadcastInDim S10000x10000 ![] bcast_S_S10000x10000 (constant S_ .f32 0x7F800000#32))
      (broadcastInDim S10000x10000 ![] bcast_S_S10000x10000 (constant S_ .f32 0x00000000#32))))

/-- Every pair's squared distance, infinite outside the radius. -/
def refNear (p : FVec F S10000x3 .f32) : FVec F S10000x10000 .f32 :=
  select (cmpf .ole (refGap p) (broadcastInDim S10000x10000 ![] bcast_S_S10000x10000 (constant S_ .f32 0x3C238332#32))) (refGap p)
    (broadcastInDim S10000x10000 ![] bcast_S_S10000x10000 (id (constant S_ .f32 0x7F800000#32)))

/-- Each row's thirty-two nearest, by negated distance. -/
def refTop (p : FVec F S10000x3 .f32) : FVec F S10000x32 .f32 × IVec S10000x32 32 :=
  Host.topK S10000x32 1 (FloatOps.cmpfTotal .gt) (Host.negf (refNear p)) sliceFits_S10000x10000_S10000x32

/-- Where a place of the table is filled. -/
def refHit (p : FVec F S10000x3 .f32) : IVec S10000x32 1 :=
  cmpf .ogt (refTop p).1 (broadcastInDim S10000x32 ![] bcast_S_S10000x32 (constant S_ .f32 0xFF800000#32))

/-- The table of sources. -/
def refSrc (p : FVec F S10000x3 .f32) : IVec S10000x32 32 :=
  select (refHit p) (refTop p).2 (broadcastInDim S10000x32 ![] bcast_S_S10000x32 (id (constantI S_ 32 4294967295#32)))

/-- The table of destinations. -/
def refDst (p : FVec F S10000x3 .f32) : IVec S10000x32 32 :=
  select (refHit p)
    (broadcastInDim S10000x32 ![0, 1] bcast_S10000x1_S10000x32_0_1 (broadcastInDim S10000x1 ![0] bcast_S10000_S10000x1_0 (iotaInDim S10000 32 0)))
    (broadcastInDim S10000x32 ![] bcast_S_S10000x32 (id (constantI S_ 32 4294967295#32)))

/-- The reference's third result is the table of sources, flattened. -/
theorem res_src (m : (ℓ : Loc nD τ sig) → Buf (Elt F) ℓ) (c : Dev nD) :
    Value.res_out2 m c = shapeCast S320000 (refSrc (F := F) (m ((c.tc : Thread nD τ).loc main_arg1))) shapeCasts_S10000x32_S320000 := rfl

/-! ## The entries, over the extended reals -/

/-- A stable sort of two operands along the second axis, read at one entry. -/
theorem sort2_row {α β : Type} (cmp : α × β → α × β → BitVec 1) (x : S10000x10000.Idx → α) (y : S10000x10000.Idx → β) (r k : Fin 10000) :
    (Host.sort2 S10000x10000 1 cmp x y).1 (ix2 r k)
        = x (ix2 r (sortedFrom (fun a b : Fin 10000 => cmp (x (ix2 r a), y (ix2 r a)) (x (ix2 r b), y (ix2 r b)) == 1#1) k))
      ∧ (Host.sort2 S10000x10000 1 cmp x y).2 (ix2 r k)
        = y (ix2 r (sortedFrom (fun a b : Fin 10000 => cmp (x (ix2 r a), y (ix2 r a)) (x (ix2 r b), y (ix2 r b)) == 1#1) k)) := by
  have key : ∀ k' : Fin 10000, (ix2 r k : S10000x10000.Idx).along (1 : Fin 2) k' = ix2 r k' := by
    intro k'
    funext b
    fin_cases b <;> rfl
  have e : (fun a b : Fin 10000 => cmp (x (ix2 r a), y (ix2 r a)) (x (ix2 r b), y (ix2 r b)) == 1#1)
      = fun a b : Fin 10000 => cmp (x ((ix2 r k : S10000x10000.Idx).along (1 : Fin 2) a), y ((ix2 r k : S10000x10000.Idx).along (1 : Fin 2) a))
          (x ((ix2 r k : S10000x10000.Idx).along (1 : Fin 2) b), y ((ix2 r k : S10000x10000.Idx).along (1 : Fin 2) b)) == 1#1 := by
    funext a b
    rw [key a, key b]
  rw [e, ← key (sortedFrom _ k)]
  exact ⟨rfl, rfl⟩

/-- The row of distances of node `r` in the reference's table. -/
def refRow (p : FVec Ideal S10000x3 .f32) (r : Fin 10000) (j : ℕ) : EReal :=
  if h : j < 10000 then refNear p (ix2 r ⟨j, h⟩) else ⊤

/-- The position the reference's sort puts at place `k` of row `r`. -/
def refPos (p : FVec Ideal S10000x3 .f32) (r : Fin 10000) (k : Fin 32) : Fin 10000 :=
  sortedFrom (fun a b : Fin 10000 => FloatOps.cmpfTotal (F := Ideal) (φ := .f32) .gt (Host.negf (refNear p) (ix2 r a)) (Host.negf (refNear p) (ix2 r b)) == 1#1)
    ⟨k, by omega⟩

/-- The reference's top entries, by the position its sort puts there. -/
theorem refTop_at (p : FVec Ideal S10000x3 .f32) (r : Fin 10000) (k : Fin 32) :
    (refTop p).1 (ix2 r k) = -(refRow p r (refPos p r k)) ∧ (refTop p).2 (ix2 r k) = BitVec.ofNat 32 (refPos p r k) := by
  constructor
  · unfold refTop Host.topK
    pointwise
    rw [(sort2_row _ _ _ r _).1]
    unfold refRow
    rw [dif_pos (refPos p r k).isLt]
    pointwise
    rfl
  · unfold refTop Host.topK
    pointwise
    rw [(sort2_row _ _ _ r _).2]
    rfl

/-- Place `k` of row `r` of the reference's sort is the row's nearest pair number `k`. -/
theorem near_refPos (p : FVec Ideal S10000x3 .f32) (r : Fin 10000) (k : Fin 32) :
    (near (refRow p r) 10000).getD k noPair
      = if refRow p r (refPos p r k) = ⊤ then noPair else pairAt (refRow p r) (refPos p r k) := by
  refine near_getD_sortedFrom (n := 10000) (refRow p r) _ ?_ ⟨k, by omega⟩
  intro a b
  unfold refRow
  rw [dif_pos a.isLt, dif_pos b.isLt]
  pointwise
  rw [Ideal.cmpfTotal_def]
  show (BitVec.ofBool (decide (_ < _)) == 1#1) = _
  simp only [EReal.neg_lt_neg_iff]
  by_cases h : refNear p (ix2 r a) < refNear p (ix2 r b) <;> simp [h]

/-- The coordinates of the nodes, with a far point after the last. -/
def coords (p : FVec Ideal S10000x3 .f32) (j : ℕ) (a : Fin 3) : EReal :=
  if h : j < 10000 then p (ix2 ⟨j, h⟩ a) else farCoord

/-- The reference's row of distances by the coordinates. -/
theorem refRow_eq (p : FVec Ideal S10000x3 .f32) (r : Fin 10000) (j : ℕ) (hj : j < 10000) : refRow p r j = gapRow (coords p) r j := by
  unfold refRow
  rw [dif_pos hj]
  have hw : IntOp.cmpi .eq (IntOp.addi (BitVec.ofNat 32 r.val) 0#32) (BitVec.ofNat 32 j) = BitVec.ofBool (decide (j = r.val)) := by
    have h1 : IntOp.addi (BitVec.ofNat 32 r.val) 0#32 = BitVec.ofNat 32 r.val := BitVec.add_zero _
    rw [h1]
    show BitVec.ofBool (_ == _) = _
    congr 1
    rw [Bool.eq_iff_iff, beq_iff_eq, decide_eq_true_iff]
    have := r.isLt
    constructor
    · intro h
      have := congrArg BitVec.toNat h
      rw [BitVec.toNat_ofNat, BitVec.toNat_ofNat, Nat.mod_eq_of_lt (by omega), Nat.mod_eq_of_lt (by omega)] at this
      exact this.symm
    · intro h; rw [h]
  have hg : max ((∑ x, p (ix2 r x) * p (ix2 r x)) + (∑ x, p (ix2 ⟨j, hj⟩ x) * p (ix2 ⟨j, hj⟩ x)) -
      Ideal.ofBits .f32 1073741824#32 * ∑ x, p (ix2 r x) * p (ix2 ⟨j, hj⟩ x)) 0 = gap (coords p) r j := by
    unfold gap coords
    simp only [dif_pos r.isLt, dif_pos hj]
  pointwise [refNear, refGap, refSq, id_eq]
  rw [hw, hg]
  unfold gapRow
  rw [far_word]
  by_cases h : j = r.val
  · have hn : gap (coords p) r j ≠ ⊥ := ne_of_gt (lt_of_lt_of_le EReal.bot_lt_zero (le_max_right _ _))
    rw [if_neg (c := j ≠ r.val ∧ gap (coords p) r j ≤ radiusSq) (fun hc => hc.1 h), decide_eq_true h]
    show (if gap (coords p) r j + ⊤ ≤ radiusSq then gap (coords p) r j + ⊤ else ⊤) = _
    rw [EReal.add_top_of_ne_bot hn, ite_self]
  · rw [decide_eq_false h]
    show (if gap (coords p) r j + 0 ≤ radiusSq then gap (coords p) r j + 0 else ⊤) = _
    rw [add_zero]
    simp only [ne_eq, h, not_false_eq_true, true_and]

/-- A place is filled exactly where the row's pair is finite. -/
theorem refHit_iff (p : FVec Ideal S10000x3 .f32) (r : Fin 10000) (k : Fin 32) :
    Ideal.ofBits .f32 4286578688#32 < (refTop p).1 (ix2 r k)
      ↔ Pair.dist ((near (gapRow (coords p) r) 10000).getD k noPair) ≤ radiusSq := by
  have hneg : Ideal.ofBits .f32 4286578688#32 = ⊥ := by simp [Ideal.ofBits, Ideal.ieee]
  rw [hneg, (refTop_at p r k).1, ← near_congr _ _ _ (refRow_eq p r), near_refPos, bot_lt_iff_ne_bot, ne_eq, EReal.neg_eq_bot_iff]
  split_ifs with h
  · exact ⟨fun hn => absurd h hn, fun hle => absurd hle (not_le.mpr radiusSq_lt_top)⟩
  · refine ⟨fun _ => ?_, fun _ => h⟩
    rw [dist_pairAt]
    rw [refRow_eq p r _ (refPos p r k).isLt] at h ⊢
    exact gapRow_le _ _ _ h

/-- Entry of the reference's table of sources. -/
theorem refSrc_at (p : FVec Ideal S10000x3 .f32) (r : Fin 10000) (k : Fin 32) :
    refSrc p (ix2 r k) = placeOf ((near (gapRow (coords p) r) 10000).getD k noPair) := by
  pointwise [refSrc, refHit, id_eq]
  unfold placeOf
  by_cases h : Ideal.ofBits .f32 4286578688#32 < (refTop p).1 (ix2 r k)
  · rw [if_pos h, if_pos ((refHit_iff p r k).mp h), (refTop_at p r k).2]
    rw [refHit_iff, ← near_congr _ _ _ (refRow_eq p r), near_refPos] at h
    rw [← near_congr _ _ _ (refRow_eq p r), near_refPos]
    split_ifs at h ⊢ with hc
    · exact absurd h (not_le.mpr radiusSq_lt_top)
    · rw [pos_pairAt]
  · rw [if_neg h, if_neg (fun hc => h ((refHit_iff p r k).mpr hc))]

/-- Entry of the reference's table of destinations. -/
theorem refDst_at (p : FVec Ideal S10000x3 .f32) (r : Fin 10000) (k : Fin 32) :
    refDst p (ix2 r k) = if Pair.dist ((near (gapRow (coords p) r) 10000).getD k noPair) ≤ radiusSq then BitVec.ofNat 32 r else 4294967295#32 := by
  pointwise [refDst, refHit, id_eq]
  simp only [refHit_iff]

end Cert.Radius

end
-- ==== Proof.Arrays.lean ====
module

public import Idealize.ShloMosaic.Lib.Pointwise
public import Idealize.ShloMosaic.Lib.Pipeline.ValueKit
public import proofs.«01_k».proof.Proof.Block
public import proofs.«01_k».proof.Proof.Table

/-!
The arrays around the launch: the padded positions that the launch reads, and the two arrays it leaves.
-/

@[expose] public section

set_option maxRecDepth 16384

noncomputable section

namespace Cert.Radius

open Idealize.ShloMosaic Idealize.SL.Sem Cert.KernelIdeal Cert.KernelIdeal.Gen

variable (m : (ℓ : Loc nD τ sig) → Buf (Elt Ideal) ℓ) (c : Dev nD)

/-- The positions as the program is given them. -/
abbrev given : FVec Ideal S10000x3 .f32 := m ((c.tc : Thread nD τ).loc main_arg1)

/-- The padded rows. -/
abbrev paddedRows : FVec Ideal S10240x3 .f32 :=
  pad S10240x3 ![0, 0] ![240, 0] ![0, 0] (given m c) (constant S_ .f32 0x42C80000#32)
    pads_S10000x3_S10240x3_02400_000 h_S_

/-- What the launch finds in its first operand. -/
theorem V_rows : V m c main_v0 = paddedRows m c := by
  simp only [V, V0, hostOps0, hostOps0_1, hostOps0_2, StableHlo.TRef.binary, StableHlo.TRef.unary,
    StableHlo.TRef.toBuf, StableHlo.TRef.ofBuf, cast_eq, List.flatten_cons, List.flatten_nil, List.cons_append,
    List.nil_append, List.append_nil]
  after_results_simp
  rfl

/-- What the launch finds in its second operand. -/
theorem V_columns : V m c main_v1
    = transpose S3x10240 [1, 0] (paddedRows m c) transposes_S10240x3_S3x10240_1_0 := by
  simp only [V, V0, hostOps0, hostOps0_1, hostOps0_2, StableHlo.TRef.binary, StableHlo.TRef.unary,
    StableHlo.TRef.toBuf, StableHlo.TRef.ofBuf, cast_eq, List.flatten_cons, List.flatten_nil, List.cons_append,
    List.nil_append, List.append_nil]
  after_results_simp
  rfl

/-- The rows the launch reads are the positions, and beyond them the far point. -/
theorem paddedRows_at (j : Fin 10240) (a : Fin 3) : paddedRows m c (ix2 j a) = coords (given m c) j a := by
  pointwise [coords]
  rfl

/-- The columns the launch reads are the same positions. -/
theorem columns_at (j : Fin 10240) (a : Fin 3) :
    transpose S3x10240 [1, 0] (paddedRows m c) transposes_S10240x3_S3x10240_1_0 (ix2 a j)
      = coords (given m c) j a := by
  pointwise [coords]
  rfl

/-- Where each block of rows stands. -/
theorem index_rows : ∀ t : Fin grid0.N, win0_0.index t = ![t.val, 0] := by decide +kernel
/-- The columns are one block. -/
theorem index_columns : ∀ t : Fin grid0.N, win0_1.index t = ![0, 0] := by decide +kernel
/-- Where each block of sources stands. -/
theorem index_srcs : ∀ t : Fin grid0.N, win0_2.index t = ![t.val, 0] := by decide +kernel
/-- Where each block of destinations stands. -/
theorem index_dsts : ∀ t : Fin grid0.N, win0_3.index t = ![t.val, 0] := by decide +kernel
/-- A grid point's one coordinate is its number. -/
theorem coords_number : ∀ t : Fin grid0.N, (grid0.coords t 0).val = t.val := by decide +kernel

/-- A block of rows holds the padded positions of those rows. -/
theorem rows_block (t : Fin cfg0.N) (r : Fin 128) (a : Fin 3) :
    iblk m c 0 t (ix2 r a) = coords (given m c) (128 * t + r) a := by
  have ht : t.val < 80 := t.isLt
  blk_simp [iblk]
  rw [V_rows, ← paddedRows_at m c ⟨128 * t.val + r.val, by omega⟩ a]
  congr 1
  funext b
  apply Fin.ext
  match b with
  | 0 => blk_simp [index_rows]; show t.val * 128 + r.val = 128 * t.val + r.val; omega
  | 1 => blk_simp [index_rows]

/-- The block of columns holds all of the padded positions. -/
theorem columns_block (t : Fin cfg0.N) (j : Fin 10240) (a : Fin 3) :
    iblk m c 1 t (ix2 a j) = coords (given m c) j a := by
  blk_simp [iblk]
  rw [V_columns, ← columns_at m c j a]
  congr 1
  funext b
  apply Fin.ext
  match b with
  | 0 => blk_simp [index_columns]
  | 1 => blk_simp [index_columns]

/-- What point `t` loads back from its scratch. -/
abbrev rowsOf (t : Fin cfg0.N) : ℕ → Dists Ideal :=
  loaded c (grid0.coords t) (ms0_0 t) (hs0_0 t) (ms0_1 t) (hs0_1 t) scM0_0 (iblk m c 0 t) (iblk m c 1 t)

/-- The sources point `t` leaves. -/
theorem srcs_eq (t : Fin cfg0.N) : (outsAt0 m c t).1 = blockSrc (F := Ideal) (rowsOf m c t) := by
  unfold outsAt0 out0_A_2
  dsimp only
  rw [run_src, View.read_writes_junk_eq_canon]
  exact View.canon_cons_unit_lit _ _ _ (by decide)

/-- The destinations point `t` leaves. -/
theorem dsts_eq (t : Fin cfg0.N) : (outsAt0 m c t).2
    = k0_pay1 (BitVec.ofNat 32 (grid0.coords t 0).val) (blockSrc (F := Ideal) (rowsOf m c t)) := by
  unfold outsAt0 out0_A_3
  dsimp only
  rw [run_dst, View.read_writes_junk_eq_canon]
  exact View.canon_cons_unit_lit _ _ _ (by decide)

/-- The array of sources after the launch, block by block. -/
def srcArray : IVec S10240x32 32 := fun y =>
  (outsAt0 m c ⟨(y 0).val / 128, by have : (y 0).val < 10240 := (y 0).isLt; show _ < 80; omega⟩).1
    (ix2 (⟨(y 0).val % 128, Nat.mod_lt _ (by decide)⟩ : Fin 128) (⟨(y 1).val, (y 1).isLt⟩ : Fin 32))

/-- The array of destinations after the launch, block by block. -/
def dstArray : IVec S10240x32 32 := fun y =>
  (outsAt0 m c ⟨(y 0).val / 128, by have : (y 0).val < 10240 := (y 0).isLt; show _ < 80; omega⟩).2
    (ix2 (⟨(y 0).val % 128, Nat.mod_lt _ (by decide)⟩ : Fin 128) (⟨(y 1).val, (y 1).isLt⟩ : Fin 32))

/-- An entry of a family of blocks depends on the numbers alone. -/
theorem block_entry (f : Fin cfg0.N → IVec S128x32 32) (t t' : Fin cfg0.N) (y y' : S128x32.Idx)
    (ht : t.val = t'.val) (h0 : (y 0).val = (y' 0).val) (h1 : (y 1).val = (y' 1).val) : f t y = f t' y' := by
  obtain rfl : t = t' := Fin.ext ht
  congr 1
  funext b
  apply Fin.ext
  match b with
  | 0 => exact h0
  | 1 => exact h1

/-- The launch leaves the array of sources. -/
theorem srcs_array : (dats m 0 c).arrAt 2 (cfgs 0).N = srcArray m c := by
  refine (dats m 0 c).arrAt_eq_of_covers 2 _ (by decide +kernel) fun t hf y => ?_
  have hy : (y 0).val < 128 := (y 0).isLt
  have e0 : ((((cfg0.win 2).blk t).view.emb y) 0 : ℕ) = t.val * 128 + (y 0).val := by
    blk_simp [index_srcs]
  have e1 : ((((cfg0.win 2).blk t).view.emb y) 1 : ℕ) = (y 1).val := by
    blk_simp [index_srcs]
  blk_simp
  rw [after0_2]
  refine block_entry (fun t => (outsAt0 m c t).1) _ _ _ _ ?_ ?_ ?_
  · show t.val = (_ : ℕ) / 128
    rw [e0]; omega
  · show (y 0).val = (_ : ℕ) % 128
    rw [e0]; omega
  · exact e1.symm

/-- The launch leaves the array of destinations. -/
theorem dsts_array : (dats m 0 c).arrAt 3 (cfgs 0).N = dstArray m c := by
  refine (dats m 0 c).arrAt_eq_of_covers 3 _ (by decide +kernel) fun t hf y => ?_
  have hy : (y 0).val < 128 := (y 0).isLt
  have e0 : ((((cfg0.win 3).blk t).view.emb y) 0 : ℕ) = t.val * 128 + (y 0).val := by
    blk_simp [index_dsts]
  have e1 : ((((cfg0.win 3).blk t).view.emb y) 1 : ℕ) = (y 1).val := by
    blk_simp [index_dsts]
  blk_simp
  rw [after0_3]
  refine block_entry (fun t => (outsAt0 m c t).2) _ _ _ _ ?_ ?_ ?_
  · show t.val = (_ : ℕ) / 128
    rw [e0]; omega
  · show (y 0).val = (_ : ℕ) % 128
    rw [e0]; omega
  · exact e1.symm

/-- The list of pairs, row after row, that the lines after the launch make of an array. -/
abbrev listed (A : IVec S10240x32 32) : IVec S320000 32 :=
  shapeCast S320000 (extractStridedSlice S10000x32 ![0, 0] A slices_S10240x32_S10000x32_0_0)
    shapeCasts_S10000x32_S320000

/-- The sources the program returns. -/
theorem tail_srcs : Pipeline.afterTail₀ cfgs (dats m) 0 (V0 m) [hostOps1] c main_v4 = listed (srcArray m c) := by
  unfold Pipeline.afterTail₀
  simp only [hostOps1, List.flatten_cons, List.flatten_nil, List.append_nil]
  after_results_simp
  have h : Pipeline.withArrays (cfgs 0).spec c (V0 m c) (fun w => (dats m 0 c).arrAt w (cfgs 0).N)
      (Proc.tc.devRef main_v2_0) = (dats m 0 c).arrAt 2 (cfgs 0).N :=
    Pipeline.withArrays_arr spec0 (by decide) c (V0 m c) (fun w => (dats m 0 c).arrAt w (cfgs 0).N) 2
  rw [h, srcs_array]
  rfl

/-- The destinations the program returns. -/
theorem tail_dsts : Pipeline.afterTail₀ cfgs (dats m) 0 (V0 m) [hostOps1] c main_v6 = listed (dstArray m c) := by
  unfold Pipeline.afterTail₀
  simp only [hostOps1, List.flatten_cons, List.flatten_nil, List.append_nil]
  after_results_simp
  have h : Pipeline.withArrays (cfgs 0).spec c (V0 m c) (fun w => (dats m 0 c).arrAt w (cfgs 0).N)
      (Proc.tc.devRef main_v2_1) = (dats m 0 c).arrAt 3 (cfgs 0).N :=
    Pipeline.withArrays_arr spec0 (by decide) c (V0 m c) (fun w => (dats m 0 c).arrAt w (cfgs 0).N) 3
  rw [h, dsts_array]
  rfl

/-- The sources a grid point leaves, from the positions. -/
theorem block_srcs (t : Fin cfg0.N) (r : Fin 128) (k : Fin 32)
    (hc : ∀ l : Fin 128, ((near (gapRow (coords (given m c)) (128 * t + r)) 10240).take 32).countP (inLane l) ≤ 9) :
    blockSrc (F := Ideal) (rowsOf m c t) (ix2 r k)
      = placeOf ((near (gapRow (coords (given m c)) (128 * t + r)) 10240).getD k noPair) :=
  blockSrc_loaded (coords (given m c)) t.val t.isLt c (grid0.coords t) (coords_number t) (ms0_0 t) (hs0_0 t) (ms0_1 t)
    (hs0_1 t) scM0_0 (iblk m c 0 t) (iblk m c 1 t) (rows_block m c t) (columns_block m c t) r k hc

/-- The returned part of the sources, at a node and a slot. -/
theorem kept_srcs_at (R : Fin 10000) (k : Fin 32)
    (hc : ∀ l : Fin 128, ((near (gapRow (coords (given m c)) R) 10240).take 32).countP (inLane l) ≤ 9) :
    extractStridedSlice S10000x32 ![0, 0] (srcArray m c) slices_S10240x32_S10000x32_0_0 (ix2 R k)
      = placeOf ((near (gapRow (coords (given m c)) R) 10240).getD k noPair) := by
  have hR := R.isLt
  have e : 128 * (R.val / 128) + R.val % 128 = R.val := Nat.div_add_mod _ _
  pointwise [srcArray]
  rw [srcs_eq]
  have := block_srcs m c ⟨R.val / 128, by show _ < 80; omega⟩ ⟨R.val % 128, Nat.mod_lt _ (by decide)⟩ k
    (by simpa only [e] using hc)
  simp only [e] at this
  exact this

/-- The returned part of the destinations, at a node and a slot. -/
theorem kept_dsts_at (R : Fin 10000) (k : Fin 32)
    (hc : ∀ l : Fin 128, ((near (gapRow (coords (given m c)) R) 10240).take 32).countP (inLane l) ≤ 9) :
    extractStridedSlice S10000x32 ![0, 0] (dstArray m c) slices_S10240x32_S10000x32_0_0 (ix2 R k)
      = if Pair.dist ((near (gapRow (coords (given m c)) R) 10240).getD k noPair) ≤ radiusSq then BitVec.ofNat 32 R
        else 4294967295#32 := by
  have hR := R.isLt
  have e : 128 * (R.val / 128) + R.val % 128 = R.val := Nat.div_add_mod _ _
  pointwise [dstArray]
  rw [dsts_eq, coords_number]
  have := k0_pay1_at (R.val / 128) _ _ _ _ (block_srcs m c ⟨R.val / 128, by show _ < 80; omega⟩
    ⟨R.val % 128, Nat.mod_lt _ (by decide)⟩ k (by simpa only [e] using hc))
  simp only [e] at this
  exact this

/-- The kernel's run: its arguments unchanged and its two computed results. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v4) = listed (srcArray m c)
      ∧ r.2.mem ((c.tc : Thread nD τ).loc main_v6) = listed (dstArray m c)) :=
  (θ_run defs _ _).mono (fun r h c => ⟨(h.1 c).1, (h.1 c).2,
      ((h.2 c).2 main_v4 (by decide)).trans (tail_srcs m c), ((h.2 c).2 main_v6 (by decide)).trans (tail_dsts m c)⟩)
    (θ_run_and (unchanged m g) (run_main m g))

end Cert.Radius
end
-- ==== Proof.Precondition.lean ====
module

public import Idealize.ShloMosaic.Lib.Pointwise
public import proofs.«01_k».proof.Proof.Gen.Pre_nine_per_lane
public import proofs.«01_k».proof.Proof.Table
public import proofs.«01_k».proof.Proof.Gaps

/-!
What the precondition says of the positions: each coordinate is a number no larger than ninety-nine, and no lane
holds more than nine of a node's thirty-two nearest.
-/

@[expose] public section

set_option maxRecDepth 16384

noncomputable section

namespace Cert.Radius

open Idealize.ShloMosaic Idealize.SL.Sem Cert.Pre_nine_per_lane Cert.Pre_nine_per_lane.Gen

/-- A table read at a node and a slot, off its flattened form. -/
theorem flat_at (s : IVec S10000x32 32) (r : Fin 10000) (x : Fin 32) (hx : r.val * 32 + x.val < 320000) :
    shapeCast S320000 s Cert.ReferenceIdeal.Gen.shapeCasts_S10000x32_S320000 (ix1 ⟨r.val * 32 + x.val, hx⟩)
      = s (ix2 r x) := by
  have := x.isLt
  pointwise []

/-- The precondition over the reference's own table of sources. -/
theorem fn_eq (x : FVec Ideal S10000x128 .f32) (p : FVec Ideal S10000x3 .f32) :
    fn x p = fn_part2 p (shapeCast S320000 (refSrc p) Cert.ReferenceIdeal.Gen.shapeCasts_S10000x32_S320000) := rfl

/-- A value whose magnitude is at most ninety-nine is a number, and at most ninety-nine. -/
theorem small_of_abs (z : EReal) (h : BitVec.ofBool (decide ((FloatOps.absf (F := Ideal) (φ := .f32) z : EReal)
    ≤ Ideal.ofBits .f32 1120272384#32)) = 1#1) : ∃ x : ℝ, z = x ∧ x ≤ 99 := by
  have e : Ideal.ofBits .f32 1120272384#32 = ((99 : ℝ) : EReal) := by
    simp [Ideal.ofBits, Ideal.ieee]
    rw [← EReal.coe_mul]
    congr 1
    norm_num
  rw [e] at h
  have h' : (FloatOps.absf (F := Ideal) (φ := .f32) z : EReal) ≤ ((99 : ℝ) : EReal) := by
    by_contra hn
    rw [decide_eq_false hn] at h
    exact absurd h (by decide)
  have h2 : max z (-z) ≤ ((99 : ℝ) : EReal) := h'
  induction z using EReal.rec with
  | bot => simp at h2
  | top => simp at h2
  | coe x => exact ⟨x, rfl, EReal.coe_le_coe_iff.1 ((le_max_left _ _).trans h2)⟩

/-- A sum of ones over the first places of a list counts the members there. -/
theorem sum_ones (f : Pair → Bool) (hf : f noPair = false) (L : List Pair) (n : ℕ) :
    (∑ x : Fin n, if f (L.getD x noPair) = true then (1 : EReal) else 0) = (((L.take n).countP f : ℕ) : EReal) := by
  induction n with
  | zero => simp
  | succ n ih =>
    rw [Fin.sum_univ_castSucc]
    simp only [Fin.val_castSucc, Fin.val_last]
    rw [ih]
    by_cases hn : n < L.length
    · rw [List.take_succ_eq_append_getElem hn, List.countP_append, Nat.cast_add]
      simp only [List.getD_eq_getElem _ _ hn]
      by_cases h : f L[n] = true <;> simp [h]
    · simp only [List.getD_eq_default _ noPair (show L.length ≤ n by omega), hf]
      rw [List.take_of_length_le (by omega), List.take_of_length_le (by omega)]
      simp

/-- Whether a table's place counts for a lane. -/
theorem counted (e : Pair) (l : Fin 128) (he : Pair.pos e ≤ 10240) :
    Scalar.select
      (IntOp.andi (IntOp.cmpi CmpIPredicate.sge (placeOf e) 0#32)
        (IntOp.cmpi CmpIPredicate.eq (IntOp.andi (placeOf e) 127#32) (BitVec.ofNat 32 l.val))) (1 : EReal) 0
      = if (inLane l e && decide (Pair.dist e ≤ radiusSq)) = true then 1 else 0 := by
  have hl := l.isLt
  have hin : inLane l e = decide (Pair.pos e % 128 = l.val) := rfl
  rw [hin]
  unfold placeOf
  by_cases h : Pair.dist e ≤ radiusSq
  · rw [if_pos h]
    generalize Pair.pos e = n at he
    have e1 : IntOp.cmpi CmpIPredicate.sge (BitVec.ofNat 32 n) 0#32 = 1#1 := by
      have : BitVec.sle 0#32 (BitVec.ofNat 32 n) = true := by
        rw [BitVec.sle_eq_decide, decide_eq_true_iff, BitVec.toInt_ofNat', BitVec.toInt_ofNat', Int.bmod_def,
          Int.bmod_def]
        split_ifs <;> omega
      show BitVec.ofBool (BitVec.sle 0#32 (BitVec.ofNat 32 n)) = 1#1
      rw [this]
      rfl
    have e2 : IntOp.andi (BitVec.ofNat 32 n) 127#32 = BitVec.ofNat 32 (n % 128) := by
      apply BitVec.eq_of_toNat_eq
      show (BitVec.ofNat 32 n &&& 127#32).toNat = _
      rw [BitVec.toNat_and, BitVec.toNat_ofNat, BitVec.toNat_ofNat, BitVec.toNat_ofNat,
        Nat.mod_eq_of_lt (by omega : n < 2 ^ 32), show 127 % 2 ^ 32 = 2 ^ 7 - 1 from rfl, Nat.and_two_pow_sub_one_eq_mod]
      omega
    have e3 : IntOp.cmpi CmpIPredicate.eq (BitVec.ofNat 32 (n % 128)) (BitVec.ofNat 32 l.val)
        = BitVec.ofBool (decide (n % 128 = l.val)) := by
      show BitVec.ofBool _ = _
      congr 1
      rw [Bool.eq_iff_iff, decide_eq_true_iff, beq_iff_eq, ← BitVec.toNat_inj, BitVec.toNat_ofNat, BitVec.toNat_ofNat]
      constructor <;> intro _ <;> omega
    rw [e1, e2, e3]
    by_cases hm : n % 128 = l.val <;> simp [hm, h, Scalar.select, IntOp.andi]
  · rw [if_neg h]
    have e1 : IntOp.cmpi CmpIPredicate.sge 4294967295#32 0#32 = 0#1 := by decide
    rw [e1]
    simp [h, Scalar.select, IntOp.andi]

/-- What the precondition says of a coordinate. -/
theorem bound_of_pre (x : FVec Ideal S10000x128 .f32) (p : FVec Ideal S10000x3 .f32)
    (h : (fn x p).1 = fun _ => 1#1) (r : Fin 10000) (a : Fin 3) : ∃ y : ℝ, p (ix2 r a) = y ∧ y ≤ 99 := by
  have h := congrFun h (ix2 r a)
  rw [fn_eq] at h
  refine small_of_abs (p (ix2 r a)) (Eq.trans (Eq.symm ?_) h)
  unfold fn_part2 fn_part3
  pointwise [id_eq]

/-- What the precondition says of a lane. -/
theorem count_of_pre (x : FVec Ideal S10000x128 .f32) (p : FVec Ideal S10000x3 .f32)
    (h : (fn x p).2 = fun _ => 1#1) (r : Fin 10000) (l : Fin 128) :
    ((near (gapRow (coords p) r) 10000).take 32).countP (inLane l) ≤ 9 := by
  have h := congrFun h (ix2 r l)
  rw [fn_eq] at h
  revert h
  generalize hs : shapeCast S320000 (refSrc p) Cert.ReferenceIdeal.Gen.shapeCasts_S10000x32_S320000 = s
  have hs' : ∀ (k : Fin 32) (hk : r.val * 32 + k.val < 320000), s (ix1 ⟨r.val * 32 + k.val, hk⟩)
      = placeOf ((near (gapRow (coords p) r) 10000).getD k noPair) := by
    intro k hk
    rw [← hs, ← refSrc_at]
    exact flat_at _ r k hk
  unfold fn_part2 fn_part3 fn_where_2
  pointwise [id_eq]
  simp only [hs', fun k : ℕ => counted ((near (gapRow (coords p) r) 10000).getD k noPair) l
    (near_pos_le _ _ k (by decide))]
  rw [sum_ones (fun e => inLane l e && decide (Pair.dist e ≤ radiusSq)) (by
    rw [Bool.and_eq_false_iff]
    refine .inr (decide_eq_false ?_)
    exact not_le_of_gt radiusSq_lt_top)]
  intro h
  have nine : Ideal.ofBits .f32 1091567616#32 = ((9 : ℕ) : EReal) := by
    have e : ((9 : ℕ) : EReal) = ((9 : ℝ) : EReal) := by norm_cast
    rw [e]
    simp [Ideal.ofBits, Ideal.ieee]
    rw [← EReal.coe_mul]
    congr 1
    norm_num
  rw [nine] at h
  rw [← List.countP_congr (p := fun e => inLane l e && decide (Pair.dist e ≤ radiusSq))]
  · by_contra hn
    rw [decide_eq_false (fun hh => hn (Nat.cast_le.1 hh))] at h
    exact absurd h (by decide)
  · intro e he
    obtain ⟨j, -, hj, rfl⟩ := (mem_near _ _ _).1 (List.mem_of_mem_take he)
    rw [Bool.and_eq_true, decide_eq_true_iff, dist_pairAt]
    refine ⟨fun h => h.1, fun h => ⟨h, gapRow_le _ _ _ hj⟩⟩

end Cert.Radius
end
-- ==== Proof.Equation.lean ====
module

public import proofs.«01_k».proof.Defs
public import proofs.«01_k».proof.Proof.Arrays
public import proofs.«01_k».proof.Proof.Precondition

/-!
The equation between the kernel's results and the reference's: both list a node's nearest.
-/

@[expose] public section

set_option maxRecDepth 16384

noncomputable section

namespace Cert.Radius

open Idealize.ShloMosaic Idealize.SL.Sem Cert.KernelIdeal Cert.KernelIdeal.Gen

/-- Two tables are equal when they agree at every node and slot. -/
theorem table_ext {A B : IVec S10000x32 32} (h : ∀ (R : Fin 10000) (k : Fin 32), A (ix2 R k) = B (ix2 R k)) : A = B :=
  funext fun y => by rw [eq_ix2 y]; exact h _ _

/-- The rows that fill up the padded positions are nobody's neighbours. -/
theorem near_padded (p : FVec Ideal S10000x3 .f32)
    (hp : ∀ (r : Fin 10000) (a : Fin 3), ∃ y : ℝ, p (ix2 r a) = y ∧ y ≤ 99) (R : Fin 10000) :
    near (gapRow (coords p) R) 10240 = near (gapRow (coords p) R) 10000 := by
  refine (near_of_le _ 10000 10240 (by decide) fun j hj _ => gapRow_far _ _ _ (fun a => ?_) fun a => ?_).symm
  · unfold coords
    rw [dif_pos R.isLt]
    exact hp R a
  · unfold coords
    rw [dif_neg (by omega)]

variable (m : (ℓ : Loc nD τ sig) → Buf (Elt Ideal) ℓ) (c : Dev nD)

/-- The kernel's sources are the reference's. -/
theorem srcs_agree (hp : ∀ (r : Fin 10000) (a : Fin 3), ∃ y : ℝ, given m c (ix2 r a) = y ∧ y ≤ 99)
    (hc : ∀ (r : Fin 10000) (l : Fin 128),
      ((near (gapRow (coords (given m c)) r) 10000).take 32).countP (inLane l) ≤ 9) :
    extractStridedSlice S10000x32 ![0, 0] (srcArray m c) slices_S10240x32_S10000x32_0_0 = refSrc (given m c) := by
  refine table_ext fun R k => ?_
  rw [kept_srcs_at m c R k (by rw [near_padded _ hp]; exact hc R), near_padded _ hp, refSrc_at]

/-- The kernel's destinations are the reference's. -/
theorem dsts_agree (hp : ∀ (r : Fin 10000) (a : Fin 3), ∃ y : ℝ, given m c (ix2 r a) = y ∧ y ≤ 99)
    (hc : ∀ (r : Fin 10000) (l : Fin 128),
      ((near (gapRow (coords (given m c)) r) 10000).take 32).countP (inLane l) ≤ 9) :
    extractStridedSlice S10000x32 ![0, 0] (dstArray m c) slices_S10240x32_S10000x32_0_0 = refDst (given m c) := by
  refine table_ext fun R k => ?_
  rw [kept_dsts_at m c R k (by rw [near_padded _ hp]; exact hc R), near_padded _ hp, refDst_at]

/-- The reference's run: its arguments unchanged and its two tables. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_v32)
        = shapeCast S320000 (refSrc (F := Ideal) (m ((c.tc : Thread Cert.ReferenceIdeal.nD Cert.ReferenceIdeal.τ).loc
            Cert.ReferenceIdeal.main_arg1))) shapeCasts_S10000x32_S320000
      ∧ r.2.mem ((c.tc : Thread Cert.ReferenceIdeal.nD Cert.ReferenceIdeal.τ).loc Cert.ReferenceIdeal.main_v34)
        = shapeCast S320000 (refDst (F := Ideal) (m ((c.tc : Thread Cert.ReferenceIdeal.nD Cert.ReferenceIdeal.τ).loc
            Cert.ReferenceIdeal.main_arg1))) shapeCasts_S10000x32_S320000) :=
  (θ_run Cert.ReferenceIdeal.defs _ _).mono (fun _ h c => ⟨(h c).1, (h c).2.1, (h c).2.2.1, (h c).2.2.2.1⟩)
    (Cert.ReferenceIdeal.Value.run m g)

/-- Under the precondition the kernel over the extended reals returns what the reference returns. -/
theorem same_results : Cert.algebraic_KernelIdeal_ReferenceIdeal_pre_nine_per_lane := by
  intro m g m' g' hpre hagree
  refine ⟨fun c => m ((c.tc : Thread nD τ).loc main_arg0), fun c => m ((c.tc : Thread nD τ).loc main_arg1),
    fun c => listed (srcArray m c), fun c => listed (dstArray m c), ?_, ?_⟩
  · exact (θ_run defs _ _).mono (fun _ h c => ⟨(h c).1, (h c).2.1, (h c).2.2.1, (h c).2.2.2, (h c).1, (h c).2.1⟩)
      (kernel_run m g)
  · refine (θ_run Cert.ReferenceIdeal.defs _ _).mono (fun _ h c => ?_) (reference_run m' g')
    have hp := bound_of_pre _ _ (hpre c).1
    have hc := count_of_pre _ _ (hpre c).2
    obtain ⟨h0, h1, h2, h3⟩ := h c
    refine ⟨h0.trans (hagree c).1, h1.trans (hagree c).2, h2.trans ?_, h3.trans ?_, h0, h1⟩
    · rw [(hagree c).2]
      exact congrArg (fun A => shapeCast S320000 A shapeCasts_S10000x32_S320000) (srcs_agree m c hp hc).symm
    · rw [(hagree c).2]
      exact congrArg (fun A => shapeCast S320000 A shapeCasts_S10000x32_S320000) (dsts_agree m c hp hc).symm

/-- The reference runs, leaves its arguments unchanged, and has no semaphore to leave set. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).1, (h c).2.1⟩, sem_eq_zero_of_no_sems (by decide) r.2⟩) (reference_run m g)

end Cert.Radius
end
-- ==== Proof.lean ====
/- The claims of this certificate, assembled: the two kernel programs' and the reference's frames, the reading of the
   kernel over the extended reals, and the equation of its results with the reference's under the precondition
   `nine_per_lane` (Proof/Equation.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_nine_per_lane
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_nine_per_lane.Gen.facts,
  fun m g _ => Cert.Kernel.Gen.frame m g,
  fun m g _ => Cert.KernelIdeal.Gen.frame m g,
  fun m g _ => Cert.KernelIdeal.Gen.frame m g,
  fun m g _ => Cert.Radius.reference_frame m g,
  fun m g _ => Cert.Radius.reference_frame m g,
  trivial,
  Cert.Radius.same_results⟩

end Cert.Proof

end
